-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x224x224 : Shape := ⟨4, ![4, 96, 224, 224]⟩
abbrev S4x96 : Shape := ⟨2, ![4, 96]⟩
abbrev S96x96x3x3 : Shape := ⟨4, ![96, 96, 3, 3]⟩
abbrev S96 : Shape := ⟨1, ![96]⟩
abbrev S3x12992 : Shape := ⟨2, ![3, 12992]⟩
abbrev S4x96x50176 : Shape := ⟨3, ![4, 96, 50176]⟩
abbrev S_ : Shape := ⟨0, ![]⟩
abbrev S1x96 : Shape := ⟨2, ![1, 96]⟩
abbrev S4x96x1 : Shape := ⟨3, ![4, 96, 1]⟩
abbrev S3x96x3x96 : Shape := ⟨4, ![3, 96, 3, 96]⟩
abbrev S288x288 : Shape := ⟨2, ![288, 288]⟩
abbrev S96x1 : Shape := ⟨2, ![96, 1]⟩
abbrev S1x96x12544 : Shape := ⟨3, ![1, 96, 12544]⟩
abbrev S1x96x1 : Shape := ⟨3, ![1, 96, 1]⟩
abbrev S96x14336 : Shape := ⟨2, ![96, 14336]⟩
abbrev S1x96x14336 : Shape := ⟨3, ![1, 96, 14336]⟩
abbrev S96x896 : Shape := ⟨2, ![96, 896]⟩
abbrev S96x13440 : Shape := ⟨2, ![96, 13440]⟩
abbrev S1x96x13440 : Shape := ⟨3, ![1, 96, 13440]⟩
abbrev S1x12992 : Shape := ⟨2, ![1, 12992]⟩
abbrev S96x12992 : Shape := ⟨2, ![96, 12992]⟩
abbrev S288x12992 : Shape := ⟨2, ![288, 12992]⟩
abbrev S96x12991 : Shape := ⟨2, ![96, 12991]⟩
abbrev S96x12544 : Shape := ⟨2, ![96, 12544]⟩
abbrev S288x12544 : Shape := ⟨2, ![288, 12544]⟩
abbrev S96x12543 : Shape := ⟨2, ![96, 12543]⟩
abbrev S1x12544 : Shape := ⟨2, ![1, 12544]⟩

abbrev nBuf : Space → Nat
  | .hbm => 33
  | .vmem => 12
  | .smem => 0
  | _ => 0

abbrev bufTy : (tb : Table) → Fin (tcTables nBuf tb) → BufTy
  | .hbm, ⟨0, _⟩ => ⟨S4x96x224x224, .f32⟩
  | .hbm, ⟨1, _⟩ => ⟨S4x96, .f32⟩
  | .hbm, ⟨2, _⟩ => ⟨S96x96x3x3, .f32⟩
  | .hbm, ⟨3, _⟩ => ⟨S96, .f32⟩
  | .hbm, ⟨4, _⟩ => ⟨S96x96x3x3, .f32⟩
  | .hbm, ⟨5, _⟩ => ⟨S96, .f32⟩
  | .hbm, ⟨6, _⟩ => ⟨S3x12992, .f32⟩
  | .hbm, ⟨7, _⟩ => ⟨S4x96x50176, .f32⟩
  | .hbm, ⟨8, _⟩ => ⟨S_, .f32⟩
  | .hbm, ⟨9, _⟩ => ⟨S96, .f32⟩
  | .hbm, ⟨10, _⟩ => ⟨S1x96, .f32⟩
  | .hbm, ⟨11, _⟩ => ⟨S_, .f32⟩
  | .hbm, ⟨12, _⟩ => ⟨S1x96, .f32⟩
  | .hbm, ⟨13, _⟩ => ⟨S1x96, .i1⟩
  | .hbm, ⟨14, _⟩ => ⟨S_, .f32⟩
  | .hbm, ⟨15, _⟩ => ⟨S4x96, .f32⟩
  | .hbm, ⟨16, _⟩ => ⟨S4x96, .f32⟩
  | .hbm, ⟨17, _⟩ => ⟨S_, .f32⟩
  | .hbm, ⟨18, _⟩ => ⟨S_, .f32⟩
  | .hbm, ⟨19, _⟩ => ⟨S4x96, .i1⟩
  | .hbm, ⟨20, _⟩ => ⟨S4x96, .f32⟩
  | .hbm, ⟨21, _⟩ => ⟨S4x96, .f32⟩
  | .hbm, ⟨22, _⟩ => ⟨S4x96x1, .f32⟩
  | .hbm, ⟨23, _⟩ => ⟨S3x96x3x96, .f32⟩
  | .hbm, ⟨24, _⟩ => ⟨S288x288, .f32⟩
  | .hbm, ⟨25, _⟩ => ⟨S288x288, .bf16⟩
  | .hbm, ⟨26, _⟩ => ⟨S3x96x3x96, .f32⟩
  | .hbm, ⟨27, _⟩ => ⟨S288x288, .f32⟩
  | .hbm, ⟨28, _⟩ => ⟨S288x288, .bf16⟩
  | .hbm, ⟨29, _⟩ => ⟨S96x1, .f32⟩
  | .hbm, ⟨30, _⟩ => ⟨S96x1, .f32⟩
  | .hbm, ⟨31, _⟩ => ⟨S4x96x50176, .f32⟩
  | .hbm, ⟨32, _⟩ => ⟨S4x96x224x224, .f32⟩
  | .local _ .vmem, ⟨0, _⟩ => ⟨S1x96x12544, .f32⟩
  | .local _ .vmem, ⟨1, _⟩ => ⟨S1x96x12544, .f32⟩
  | .local _ .vmem, ⟨2, _⟩ => ⟨S1x96x1, .f32⟩
  | .local _ .vmem, ⟨3, _⟩ => ⟨S1x96x1, .f32⟩
  | .local _ .vmem, ⟨4, _⟩ => ⟨S288x288, .bf16⟩
  | .local _ .vmem, ⟨5, _⟩ => ⟨S288x288, .bf16⟩
  | .local _ .vmem, ⟨6, _⟩ => ⟨S96x1, .f32⟩
  | .local _ .vmem, ⟨7, _⟩ => ⟨S96x1, .f32⟩
  | .local _ .vmem, ⟨8, _⟩ => ⟨S3x12992, .f32⟩
  | .local _ .vmem, ⟨9, _⟩ => ⟨S1x96x12544, .f32⟩
  | .local _ .vmem, ⟨10, _⟩ => ⟨S1x96x12544, .f32⟩
  | .local _ .vmem, ⟨11, _⟩ => ⟨S96x14336, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_cst_1 : Ref sig .tc := ⟨.hbm, 11, rfl⟩
abbrev main_call0_v3 : Ref sig .tc := ⟨.hbm, 12, rfl⟩
abbrev main_call0_v4 : Ref sig .tc := ⟨.hbm, 13, rfl⟩
abbrev main_call0_cst_2 : Ref sig .tc := ⟨.hbm, 14, rfl⟩
abbrev main_call0_v5 : Ref sig .tc := ⟨.hbm, 15, rfl⟩
abbrev main_call0_v6 : Ref sig .tc := ⟨.hbm, 16, rfl⟩
abbrev main_call0_cst_3 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .sgt arg1 c0_i32
  let c3_i32 : BitVec 32 := 3#32
  let v1 : BitVec 1 := Scalar.cmpi .slt arg1 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) : Fin 3 → Nat :=
  let arg0 : BitVec 32 := BitVec.ofNat 32 (i 0).val
  let c0_i32_36 : BitVec 32 := 0#32
  let arg1 : BitVec 32 := BitVec.ofNat 32 (i 1).val
  let c56_i32_35 : BitVec 32 := 56#32
  let v99 : BitVec 32 := Scalar.muli arg1 c56_i32_35
  let c4_i32 : BitVec 32 := 4#32
  let v100 : BitVec 32 := Scalar.subi v99 c4_i32
  let c224_i32 : BitVec 32 := 224#32
  let v101 : BitVec 32 := Scalar.muli v100 c224_i32
  ![arg0.toNat, 0, v101.toNat]
def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

def k0_off2 (i : grid0.Coords) : Fin 3 → Nat :=
  let arg0 : BitVec 32 := BitVec.ofNat 32 (i 0).val
  let c0_i32_39 : BitVec 32 := 0#32
  let c0_i32_40 : BitVec 32 := 0#32
  ![arg0.toNat, 0, 0]
def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def k0_off3 (i : grid0.Coords) : Fin 3 → Nat :=
  let arg0 : BitVec 32 := BitVec.ofNat 32 (i 0).val
  let c0_i32_37 : BitVec 32 := 0#32
  let c36736_i32 : BitVec 32 := 36736#32
  ![arg0.toNat, 0, 36736]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x96x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S288x288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S288x288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x12992 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x96x12544 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x96x224x224 : Shape := ⟨4, ![4, 96, 224, 224]⟩
abbrev S4x96 : Shape := ⟨2, ![4, 96]⟩
abbrev S96x96x3x3 : Shape := ⟨4, ![96, 96, 3, 3]⟩
abbrev S96 : Shape := ⟨1, ![96]⟩
abbrev S_ : Shape := ⟨0, ![]⟩
abbrev S4x96x226x226 : Shape := ⟨4, ![4, 96, 226, 226]⟩
abbrev S96x96x1x1 : Shape := ⟨4, ![96, 96, 1, 1]⟩
abbrev S96x96 : Shape := ⟨2, ![96, 96]⟩
abbrev S4x224x224x96 : Shape := ⟨4, ![4, 224, 224, 96]⟩
abbrev S1x96x1x1 : Shape := ⟨4, ![1, 96, 1, 1]⟩
abbrev S4x96x1x1 : Shape := ⟨4, ![4, 96, 1, 1]⟩

abbrev nBuf : Space → Nat
  | .hbm => 175
  | .vmem => 0
  | .smem => 0
  | _ => 0

abbrev hbmTy0_0 (i : Nat) : BufTy := match i % 128 with
  | 0 => ⟨S4x96x224x224, .f32⟩
  | 1 => ⟨S4x96, .f32⟩
  | 2 => ⟨S96x96x3x3, .f32⟩
  | 3 => ⟨S96, .f32⟩
  | 4 => ⟨S96x96x3x3, .f32⟩
  | 5 => ⟨S96, .f32⟩
  | 6 => ⟨S_, .i32⟩
  | 7 => ⟨S_, .f32⟩
  | 8 => ⟨S4x96x226x226, .f32⟩
  | 9 => ⟨S_, .f32⟩
  | 10 => ⟨S4x96x224x224, .f32⟩
  | 11 => ⟨S96x96x1x1, .f32⟩
  | 12 => ⟨S96x96, .f32⟩
  | 13 => ⟨S4x96x224x224, .f32⟩
  | 14 => ⟨S4x224x224x96, .f32⟩
  | 15 => ⟨S4x96x224x224, .f32⟩
  | 16 => ⟨S4x96x224x224, .f32⟩
  | 17 => ⟨S96x96x1x1, .f32⟩
  | 18 => ⟨S96x96, .f32⟩
  | 19 => ⟨S4x96x224x224, .f32⟩
  | 20 => ⟨S4x224x224x96, .f32⟩
  | 21 => ⟨S4x96x224x224, .f32⟩
  | 22 => ⟨S4x96x224x224, .f32⟩
  | 23 => ⟨S96x96x1x1, .f32⟩
  | 24 => ⟨S96x96, .f32⟩
  | 25 => ⟨S4x96x224x224, .f32⟩
  | 26 => ⟨S4x224x224x96, .f32⟩
  | 27 => ⟨S4x96x224x224, .f32⟩
  | 28 => ⟨S4x96x224x224, .f32⟩
  | 29 => ⟨S96x96x1x1, .f32⟩
  | 30 => ⟨S96x96, .f32⟩
  | 31 => ⟨S4x96x224x224, .f32⟩
  | 32 => ⟨S4x224x224x96, .f32⟩
  | 33 => ⟨S4x96x224x224, .f32⟩
  | 34 => ⟨S4x96x224x224, .f32⟩
  | 35 => ⟨S96x96x1x1, .f32⟩
  | 36 => ⟨S96x96, .f32⟩
  | 37 => ⟨S4x96x224x224, .f32⟩
  | 38 => ⟨S4x224x224x96, .f32⟩
  | 39 => ⟨S4x96x224x224, .f32⟩
  | 40 => ⟨S4x96x224x224, .f32⟩
  | 41 => ⟨S96x96x1x1, .f32⟩
  | 42 => ⟨S96x96, .f32⟩
  | 43 => ⟨S4x96x224x224, .f32⟩
  | 44 => ⟨S4x224x224x96, .f32⟩
  | 45 => ⟨S4x96x224x224, .f32⟩
  | 46 => ⟨S4x96x224x224, .f32⟩
  | 47 => ⟨S96x96x1x1, .f32⟩
  | 48 => ⟨S96x96, .f32⟩
  | 49 => ⟨S4x96x224x224, .f32⟩
  | 50 => ⟨S4x224x224x96, .f32⟩
  | 51 => ⟨S4x96x224x224, .f32⟩
  | 52 => ⟨S4x96x224x224, .f32⟩
  | 53 => ⟨S96x96x1x1, .f32⟩
  | 54 => ⟨S96x96, .f32⟩
  | 55 => ⟨S4x96x224x224, .f32⟩
  | 56 => ⟨S4x224x224x96, .f32⟩
  | 57 => ⟨S4x96x224x224, .f32⟩
  | 58 => ⟨S4x96x224x224, .f32⟩
  | 59 => ⟨S96x96x1x1, .f32⟩
  | 60 => ⟨S96x96, .f32⟩
  | 61 => ⟨S4x96x224x224, .f32⟩
  | 62 => ⟨S4x224x224x96, .f32⟩
  | 63 => ⟨S4x96x224x224, .f32⟩
  | 64 => ⟨S4x96x224x224, .f32⟩
  | 65 => ⟨S1x96x1x1, .f32⟩
  | 66 => ⟨S4x96x224x224, .f32⟩
  | 67 => ⟨S4x96x224x224, .f32⟩
  | 68 => ⟨S_, .f32⟩
  | 69 => ⟨S4x96, .f32⟩
  | 70 => ⟨S4x96, .i1⟩
  | 71 => ⟨S_, .f32⟩
  | 72 => ⟨S_, .f32⟩
  | 73 => ⟨S4x96, .f32⟩
  | 74 => ⟨S4x96, .f32⟩
  | 75 => ⟨S4x96x1x1, .f32⟩
  | 76 => ⟨S4x96x224x224, .f32⟩
  | 77 => ⟨S4x96x224x224, .f32⟩
  | 78 => ⟨S_, .f32⟩
  | 79 => ⟨S96, .f32⟩
  | 80 => ⟨S_, .f32⟩
  | 81 => ⟨S96, .f32⟩
  | 82 => ⟨S96, .i1⟩
  | 83 => ⟨S96, .f32⟩
  | 84 => ⟨S1x96x1x1, .f32⟩
  | 85 => ⟨S4x96x224x224, .f32⟩
  | 86 => ⟨S4x96x224x224, .f32⟩
  | 87 => ⟨S_, .f32⟩
  | 88 => ⟨S4x96x224x224, .f32⟩
  | 89 => ⟨S4x96x224x224, .f32⟩
  | 90 => ⟨S_, .i32⟩
  | 91 => ⟨S_, .f32⟩
  | 92 => ⟨S4x96x226x226, .f32⟩
  | 93 => ⟨S_, .f32⟩
  | 94 => ⟨S4x96x224x224, .f32⟩
  | 95 => ⟨S96x96x1x1, .f32⟩
  | 96 => ⟨S96x96, .f32⟩
  | 97 => ⟨S4x96x224x224, .f32⟩
  | 98 => ⟨S4x224x224x96, .f32⟩
  | 99 => ⟨S4x96x224x224, .f32⟩
  | 100 => ⟨S4x96x224x224, .f32⟩
  | 101 => ⟨S96x96x1x1, .f32⟩
  | 102 => ⟨S96x96, .f32⟩
  | 103 => ⟨S4x96x224x224, .f32⟩
  | 104 => ⟨S4x224x224x96, .f32⟩
  | 105 => ⟨S4x96x224x224, .f32⟩
  | 106 => ⟨S4x96x224x224, .f32⟩
  | 107 => ⟨S96x96x1x1, .f32⟩
  | 108 => ⟨S96x96, .f32⟩
  | 109 => ⟨S4x96x224x224, .f32⟩
  | 110 => ⟨S4x224x224x96, .f32⟩
  | 111 => ⟨S4x96x224x224, .f32⟩
  | 112 => ⟨S4x96x224x224, .f32⟩
  | 113 => ⟨S96x96x1x1, .f32⟩
  | 114 => ⟨S96x96, .f32⟩
  | 115 => ⟨S4x96x224x224, .f32⟩
  | 116 => ⟨S4x224x224x96, .f32⟩
  | 117 => ⟨S4x96x224x224, .f32⟩
  | 118 => ⟨S4x96x224x224, .f32⟩
  | 119 => ⟨S96x96x1x1, .f32⟩
  | 120 => ⟨S96x96, .f32⟩
  | 121 => ⟨S4x96x224x224, .f32⟩
  | 122 => ⟨S4x224x224x96, .f32⟩
  | 123 => ⟨S4x96x224x224, .f32⟩
  | 124 => ⟨S4x96x224x224, .f32⟩
  | 125 => ⟨S96x96x1x1, .f32⟩
  | 126 => ⟨S96x96, .f32⟩
  | 127 => ⟨S4x96x224x224, .f32⟩
  | _ => ⟨S4x96x224x224, .f32⟩

abbrev hbmTy0_1 (i : Nat) : BufTy := match i % 128 with
  | 0 => ⟨S4x224x224x96, .f32⟩
  | 1 => ⟨S4x96x224x224, .f32⟩
  | 2 => ⟨S4x96x224x224, .f32⟩
  | 3 => ⟨S96x96x1x1, .f32⟩
  | 4 => ⟨S96x96, .f32⟩
  | 5 => ⟨S4x96x224x224, .f32⟩
  | 6 => ⟨S4x224x224x96, .f32⟩
  | 7 => ⟨S4x96x224x224, .f32⟩
  | 8 => ⟨S4x96x224x224, .f32⟩
  | 9 => ⟨S96x96x1x1, .f32⟩
  | 10 => ⟨S96x96, .f32⟩
  | 11 => ⟨S4x96x224x224, .f32⟩
  | 12 => ⟨S4x224x224x96, .f32⟩
  | 13 => ⟨S4x96x224x224, .f32⟩
  | 14 => ⟨S4x96x224x224, .f32⟩
  | 15 => ⟨S96x96x1x1, .f32⟩
  | 16 => ⟨S96x96, .f32⟩
  | 17 => ⟨S4x96x224x224, .f32⟩
  | 18 => ⟨S4x224x224x96, .f32⟩
  | 19 => ⟨S4x96x224x224, .f32⟩
  | 20 => ⟨S4x96x224x224, .f32⟩
  | 21 => ⟨S1x96x1x1, .f32⟩
  | 22 => ⟨S4x96x224x224, .f32⟩
  | 23 => ⟨S4x96x224x224, .f32⟩
  | 24 => ⟨S_, .f32⟩
  | 25 => ⟨S4x96, .f32⟩
  | 26 => ⟨S4x96, .i1⟩
  | 27 => ⟨S_, .f32⟩
  | 28 => ⟨S_, .f32⟩
  | 29 => ⟨S4x96, .f32⟩
  | 30 => ⟨S4x96, .f32⟩
  | 31 => ⟨S4x96x1x1, .f32⟩
  | 32 => ⟨S4x96x224x224, .f32⟩
  | 33 => ⟨S4x96x224x224, .f32⟩
  | 34 => ⟨S_, .f32⟩
  | 35 => ⟨S96, .f32⟩
  | 36 => ⟨S_, .f32⟩
  | 37 => ⟨S96, .f32⟩
  | 38 => ⟨S96, .i1⟩
  | 39 => ⟨S96, .f32⟩
  | 40 => ⟨S1x96x1x1, .f32⟩
  | 41 => ⟨S4x96x224x224, .f32⟩
  | 42 => ⟨S4x96x224x224, .f32⟩
  | 43 => ⟨S_, .f32⟩
  | 44 => ⟨S4x96x224x224, .f32⟩
  | 45 => ⟨S4x96x224x224, .f32⟩
  | 46 => ⟨S4x96x224x224, .f32⟩
  | _ => ⟨S4x96x224x224, .f32⟩

abbrev hbmTy (i : Nat) : BufTy := match i / 128 with
  | 0 => hbmTy0_0 i
  | 1 => hbmTy0_1 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_0 : Ref sig .tc := ⟨.hbm, 68, rfl⟩
abbrev main_v59 : Ref sig .tc := ⟨.hbm, 69, rfl⟩
abbrev main_v60 : Ref sig .tc := ⟨.hbm, 70, rfl⟩
abbrev main_cst_1 : Ref sig .tc := ⟨.hbm, 71, rfl⟩
abbrev main_call1_v0 : Ref sig .tc := ⟨.hbm, 72, rfl⟩
abbrev main_call1_v1 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_2 : Ref sig .tc := ⟨.hbm, 78, rfl⟩
abbrev main_v65 : Ref sig .tc := ⟨.hbm, 79, rfl⟩
abbrev main_cst_3 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_call2_cst : Ref sig .tc := ⟨.hbm, 87, rfl⟩
abbrev main_call2_v0 : Ref sig .tc := ⟨.hbm, 88, rfl⟩
abbrev main_v72 : Ref sig .tc := ⟨.hbm, 89, rfl⟩
abbrev main_c_4 : Ref sig .tc := ⟨.hbm, 90, rfl⟩
abbrev main_call3_v0 : Ref sig .tc := ⟨.hbm, 91, rfl⟩
abbrev main_v73 : Ref sig .tc := ⟨.hbm, 92, rfl⟩
abbrev main_cst_5 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_cst_6 : Ref sig .tc := ⟨.hbm, 152, rfl⟩
abbrev main_v132 : Ref sig .tc := ⟨.hbm, 153, rfl⟩
abbrev main_v133 : Ref sig .tc := ⟨.hbm, 154, rfl⟩
abbrev main_cst_7 : Ref sig .tc := ⟨.hbm, 155, rfl⟩
abbrev main_call4_v0 : Ref sig .tc := ⟨.hbm, 156, rfl⟩
abbrev main_call4_v1 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_8 : Ref sig .tc := ⟨.hbm, 162, rfl⟩
abbrev main_v138 : Ref sig .tc := ⟨.hbm, 163, rfl⟩
abbrev main_cst_9 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_call5_cst : Ref sig .tc := ⟨.hbm, 171, rfl⟩
abbrev main_call5_v0 : Ref sig .tc := ⟨.hbm, 172, rfl⟩
abbrev main_v145 : Ref sig .tc := ⟨.hbm, 173, rfl⟩
abbrev main_v146 : Ref sig .tc := ⟨.hbm, 174, rfl⟩

abbrev nD : Nat := 1
abbrev τ : Topo := Topo.v7x

variable {F : FTy → Type} [FloatOps F]
-- ==== Proof.Ideal.Body.lean ====
/-
  WHAT ONE BLOCK COMPUTES.

  The kernel's body at a grid point `(b, t)` first fills a scratch buffer of 96 channels × 64 image rows from the
  flattened images in HBM by one transfer (three ways: a strip inside the image, the top strip and the bottom strip,
  the missing rows stored as zeros), then computes the output strip from the scratch and the staged operands.

  * `fillAt i X` is what the scratch holds, by one formula for the three ways: image row `56 t - 4 + r`, zero outside.
  * `blockOut …` is the stored strip as a function of the scratch and the operands.
  * `run_mid`, `run_top`, `run_bot` run the body in the three cases; `body_run` is their union: from the operands'
    buffers held (the HBM images at any share), the body returns them unchanged and the output buffer at `blockOut`.
-/
module

public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.ValueLayout

@[expose] public section

noncomputable section

namespace Cert.Proof.Ideal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's staging cells beside the counters of the body's own transfer. -/
abbrev UU : Type := UR sig nD τ × Counters

local notation "𝕄" => MT nD τ sig Unit (Elt F) ℕ UU ℕ

/-- The contents of memref `M`'s buffer on core `c`. -/
abbrev Bf (c : Dev nD) {sp : Space} {S : Shape} {e : EltTy} (M : Memref sig .tc sp S e) : Type := Buf (Elt F) (M.view.loc (c : Thread nD τ))
/-- That buffer held at share `q`. -/
abbrev pt (c : Dev nD) {sp : Space} {S : Shape} {e : EltTy} (M : Memref sig .tc sp S e) (q : PosShare TreeShare) (f : Bf (F := F) c M) : sProp 𝕄 :=
  M.view.loc (c : Thread nD τ) ↦{q} f

/-! ## The three cases of the grid point -/

/-- Exactly one of the three branches is taken. -/
theorem cases_of (i : grid0.Coords) :
    (k0_cond1 i = 1#1 ∧ ¬ k0_cond2 i = 1#1 ∧ ¬ k0_cond3 i = 1#1)
    ∨ (¬ k0_cond1 i = 1#1 ∧ k0_cond2 i = 1#1 ∧ ¬ k0_cond3 i = 1#1)
    ∨ (¬ k0_cond1 i = 1#1 ∧ ¬ k0_cond2 i = 1#1 ∧ k0_cond3 i = 1#1) := by
  revert i; decide +kernel

/-- Inside the image the transfer starts four rows above the strip. -/
theorem off_mid : ∀ i : grid0.Coords, k0_cond1 i = 1#1 →
    k0_off1 i 0 = (i 0).val ∧ k0_off1 i 1 = 0 ∧ k0_off1 i 2 + 896 = (i 1).val * 12544 ∧ (i 1).val < 3 := by decide +kernel
/-- The top strip's transfer starts at the image's first row. -/
theorem off_top : ∀ i : grid0.Coords, k0_cond2 i = 1#1 →
    k0_off2 i 0 = (i 0).val ∧ k0_off2 i 1 = 0 ∧ k0_off2 i 2 = 0 ∧ (i 1).val = 0 := by decide +kernel
/-- The bottom strip's transfer starts four rows above the last strip. -/
theorem off_bot : ∀ i : grid0.Coords, k0_cond3 i = 1#1 →
    k0_off3 i 0 = (i 0).val ∧ k0_off3 i 1 = 0 ∧ k0_off3 i 2 = 36736 ∧ (i 1).val = 3 := by decide +kernel

/-! ## The scratch -/

/-- The scratch at point `i`: channel `o`, position `p` holds the image at flat position `12544 t - 896 + p` (row
    `56 t - 4 + p / 224`), and zero where that row is outside the image. -/
def fillAt (i : grid0.Coords) (X : S4x96x50176.Idx → Elt F .f32) : S96x14336.Idx → Elt F .f32 := fun j =>
  if h : 896 ≤ (i 1).val * 12544 + (j 1).val ∧ (i 1).val * 12544 + (j 1).val < 51072 then
    X (ix3 (⟨(i 0).val, (i 0).isLt⟩ : Fin 4) (j 0 : Fin 96) (⟨(i 1).val * 12544 + (j 1).val - 896, by omega⟩ : Fin 50176))
  else Scalar.ofBits .f32 0x00000000#32

/-- A squeezed slice of the images read at channel `a`, position `p`. -/
theorem read_slice {n : ℕ} (off : Fin 3 → ℕ)
    (inb : ∀ a, off a + (⟨3, ![1, 96, n]⟩ : Shape).size a ≤ S4x96x50176.size a)
    (hs : ∀ a, (Rect.unit (s := S4x96x50176) off (⟨3, ![1, 96, n]⟩ : Shape).size inb).stride a = 1)
    (hq : (⟨3, ![1, 96, n]⟩ : Shape).Squeezes ⟨2, ![96, n]⟩) (X : S4x96x50176.Idx → Elt F .f32) (a : Fin 96) (p : Fin n)
    (k : S4x96x50176.Idx) (h0 : (k 0).val = off 0) (h1 : (k 1).val = off 1 + a.val) (h2 : (k 2).val = off 2 + p.val) :
    (((Memref.whole main_call0_v0).slice (Rect.unit (s := S4x96x50176) off (⟨3, ![1, 96, n]⟩ : Shape).size inb) hs).squeeze
      ⟨2, ![96, n]⟩ hq).view.read (Elt F) X (ix2 a p) = X k := by
  show X ((Rect.unit (s := S4x96x50176) off (⟨3, ![1, 96, n]⟩ : Shape).size inb).emb (Shape.reshapeEquiv hq.numel_eq (ix2 a p))) = X k
  rw [reshapeEquiv_ix2_1ab]
  refine congrArg X (funext fun ax => Fin.ext ?_)
  match ax with
  | ⟨0, _⟩ => exact h0.symm
  | ⟨1, _⟩ => show off 1 + 1 * a.val = _; rw [Nat.one_mul]; exact h1.symm
  | ⟨2, _⟩ => show off 2 + 1 * p.val = _; rw [Nat.one_mul]; exact h2.symm

/-! ## The output strip -/

/-- Row `0` of the table of column masks and row numbers (the left mask), -/
def auxL (a : S3x12992.Idx → Elt F .f32) : S1x12992.Idx → Elt F .f32 := fun j =>
  a ((Rect.unit (s := S3x12992) ![0, 0] S1x12992.size inb_S3x12992_S1x12992_0_0).toLoadRect.idx j)
/-- row `1` (the right mask), -/
def auxR (a : S3x12992.Idx → Elt F .f32) : S1x12992.Idx → Elt F .f32 := fun j =>
  a ((Rect.unit (s := S3x12992) ![1, 0] S1x12992.size inb_S3x12992_S1x12992_1_0).toLoadRect.idx j)
/-- and row `2` (the row numbers). -/
def auxN (a : S3x12992.Idx → Elt F .f32) : S1x12992.Idx → Elt F .f32 := fun j =>
  a ((Rect.unit (s := S3x12992) ![2, 0] S1x12992.size inb_S3x12992_S1x12992_2_0).toLoadRect.idx j)

/-- The strip the body stores, from the scratch `S`, the gate `g`, the table `a`, the two weight matrices, the two
    biases and the residual strip `r`. -/
def blockOut (i : grid0.Coords) (S : Vec F S96x14336 .f32) (g : Vec F S1x96x1 .f32) (a : S3x12992.Idx → Elt F .f32)
    (w1 w2 : Vec F S288x288 .bf16) (b1 b2 : Vec F S96x1 .f32) (r : Vec F S1x96x12544 .f32) : Vec F S1x96x12544 .f32 :=
  k0_pay1 (k0_pay4 g) (auxR a)
    (k0_pay12 (BitVec.ofNat 32 (i 1).val) (k0_pay4 g) (auxL a) (auxR a) (auxN a) (k0_pay6 S w1) (k0_pay8 S w1) (k0_pay9 S w1) b1 w2)
    (k0_pay13 (BitVec.ofNat 32 (i 1).val) (k0_pay4 g) (auxL a) (auxR a) (auxN a) (k0_pay6 S w1) (k0_pay8 S w1) (k0_pay9 S w1) b1 w2)
    b2 r

/-! ### The scratch in the three cases -/

theorem fill_apply (i : grid0.Coords) (X : S4x96x50176.Idx → Elt F .f32) (a : Fin 96) (p : Fin 14336) :
    fillAt i X (ix2 a p) = if h : 896 ≤ (i 1).val * 12544 + p.val ∧ (i 1).val * 12544 + p.val < 51072 then
      X (ix3 (⟨(i 0).val, (i 0).isLt⟩ : Fin 4) a (⟨(i 1).val * 12544 + p.val - 896, by omega⟩ : Fin 50176)) else Scalar.ofBits .f32 0x00000000#32 := rfl

/-- A position inside the columns stored last reads what was stored, -/
theorem put_mem {n : ℕ} (o : ℕ) (inb : ∀ ax, (![0, o] : Fin 2 → ℕ) ax + (⟨2, ![96, n]⟩ : Shape).size ax ≤ S96x14336.size ax)
    (w : (⟨2, ![96, n]⟩ : Shape).Idx → Elt F .f32) (L : List (View.Piece (Elt F) S96x14336 .f32)) (f : S96x14336.Idx → Elt F .f32) (a : Fin 96)
    (p : Fin 14336) (p' : Fin n) (h : p.val = o + p'.val) :
    View.read (Elt F) (Memref.whole cc0_scratch0).view ((Memref.whole cc0_scratch0).view.writes (Elt F) f
      ((⟨Rect.unit (s := S96x14336) ![0, o] (⟨2, ![96, n]⟩ : Shape).size inb, w⟩ : View.Piece (Elt F) S96x14336 .f32) :: L)) (ix2 a p) = w (ix2 a p') :=
  View.read_writes_cons_unit_of_mem (off' := ![0, o]) (Memref.whole cc0_scratch0).view f inb w L (ix2 a p) (ix2 a p') rfl fun ax => by
    match ax with
    | ⟨0, _⟩ => show a.val = 0 + a.val; omega
    | ⟨1, _⟩ => exact h

/-- and one outside reads what was there before. -/
theorem put_not_mem {n : ℕ} (o : ℕ) (inb : ∀ ax, (![0, o] : Fin 2 → ℕ) ax + (⟨2, ![96, n]⟩ : Shape).size ax ≤ S96x14336.size ax)
    (w : (⟨2, ![96, n]⟩ : Shape).Idx → Elt F .f32) (L : List (View.Piece (Elt F) S96x14336 .f32)) (f : S96x14336.Idx → Elt F .f32) (a : Fin 96)
    (p : Fin 14336) (h : p.val < o ∨ o + n ≤ p.val) :
    View.read (Elt F) (Memref.whole cc0_scratch0).view ((Memref.whole cc0_scratch0).view.writes (Elt F) f
      ((⟨Rect.unit (s := S96x14336) ![0, o] (⟨2, ![96, n]⟩ : Shape).size inb, w⟩ : View.Piece (Elt F) S96x14336 .f32) :: L)) (ix2 a p)
      = View.read (Elt F) (Memref.whole cc0_scratch0).view ((Memref.whole cc0_scratch0).view.writes (Elt F) f L) (ix2 a p) :=
  View.read_writes_cons_unit_of_not_mem (off' := ![0, o]) (Memref.whole cc0_scratch0).view f inb w L (ix2 a p) rfl 1 h

/-- Inside the image: the whole scratch is written by the transfer. -/
theorem fill_mid (i : grid0.Coords) (h1 : k0_cond1 i = 1#1) (X : S4x96x50176.Idx → Elt F .f32) (fs : S96x14336.Idx → Elt F .f32)
    (inb : ∀ a, k0_off1 i a + S1x96x14336.size a ≤ S4x96x50176.size a) (hs) :
    View.readAt (Elt F) (Memref.whole cc0_scratch0).view (Rect.unit ![0, 0] S96x14336.size inb_S96x14336_S96x14336_0_0).toLoadRect
      (View.write (Elt F) (Memref.whole cc0_scratch0).view fs
        (ReadAs.same.apply (View.read (Elt F) (((Memref.whole main_call0_v0).slice (Rect.unit (k0_off1 i) S1x96x14336.size inb) hs).squeeze
          S96x14336 squeezes_S1x96x14336_S96x14336).view X)) Finset.univ) = fillAt i X := by
  obtain ⟨e0, e1, e2, e3⟩ := off_mid i h1
  refine (View.readAt_full (Memref.whole cc0_scratch0).view _ inb_S96x14336_S96x14336_0_0).trans ?_
  rw [View.read_write_univ]
  funext j
  obtain ⟨a, p, rfl⟩ : ∃ a p, j = ix2 a p := ⟨_, _, eq_ix2 j⟩
  have hp := p.isLt
  rw [fill_apply, dif_pos (by omega)]
  refine read_slice (k0_off1 i) inb hs squeezes_S1x96x14336_S96x14336 X a p _ ?_ ?_ ?_
  · exact e0.symm
  · rw [e1, Nat.zero_add]
  · show (i 1).val * 12544 + p.val - 896 = _
    omega

/-- The top strip: four rows of zeros, then the image's first sixty rows. -/
theorem fill_top (i : grid0.Coords) (h2 : k0_cond2 i = 1#1) (X : S4x96x50176.Idx → Elt F .f32)
    (inb : ∀ a, k0_off2 i a + S1x96x13440.size a ≤ S4x96x50176.size a) (hs) :
    (Memref.whole cc0_scratch0).view.readCov (Val := Elt F)
      [⟨Rect.unit ![0, 896] S96x13440.size inb_S96x14336_S96x13440_0_896,
        ReadAs.same.apply (View.read (Elt F) (((Memref.whole main_call0_v0).slice (Rect.unit (k0_off2 i) S1x96x13440.size inb) hs).squeeze
          S96x13440 squeezes_S1x96x13440_S96x13440).view X)⟩,
       ⟨Rect.unit ![0, 0] S96x896.size inb_S96x14336_S96x896_0_0, k0_pay2⟩]
      (Rect.unit ![0, 0] S96x14336.size inb_S96x14336_S96x14336_0_0).toLoadRect = fillAt i X := by
  obtain ⟨e0, e1, e2, e3⟩ := off_top i h2
  unfold View.readCov
  refine (View.readAt_full (Memref.whole cc0_scratch0).view _ inb_S96x14336_S96x14336_0_0).trans ?_
  funext j
  obtain ⟨a, p, rfl⟩ : ∃ a p, j = ix2 a p := ⟨_, _, eq_ix2 j⟩
  have hp := p.isLt
  rw [fill_apply]
  by_cases h : 896 ≤ p.val
  · rw [dif_pos (by omega)]
    refine (put_mem _ _ _ _ _ a p (⟨p.val - 896, by omega⟩ : Fin 13440) (by show p.val = 896 + (p.val - 896); omega)).trans ?_
    refine read_slice (k0_off2 i) inb hs squeezes_S1x96x13440_S96x13440 X a _ _ ?_ ?_ ?_
    · exact e0.symm
    · rw [e1, Nat.zero_add]
    · show (i 1).val * 12544 + p.val - 896 = _ + (p.val - 896)
      omega
  · rw [dif_neg (by omega)]
    refine (put_not_mem _ _ _ _ _ a p (.inl (by omega))).trans ?_
    refine (put_mem _ _ _ _ _ a p (⟨p.val, by omega⟩ : Fin 896) (by show p.val = 0 + p.val; omega)).trans ?_
    rfl

/-- The bottom strip: the image's last sixty rows, then four rows of zeros. -/
theorem fill_bot (i : grid0.Coords) (h3 : k0_cond3 i = 1#1) (X : S4x96x50176.Idx → Elt F .f32)
    (inb : ∀ a, k0_off3 i a + S1x96x13440.size a ≤ S4x96x50176.size a) (hs) :
    (Memref.whole cc0_scratch0).view.readCov (Val := Elt F)
      [⟨Rect.unit ![0, 13440] S96x896.size inb_S96x14336_S96x896_0_13440, k0_pay3⟩,
       ⟨Rect.unit ![0, 0] S96x13440.size inb_S96x14336_S96x13440_0_0,
        ReadAs.same.apply (View.read (Elt F) (((Memref.whole main_call0_v0).slice (Rect.unit (k0_off3 i) S1x96x13440.size inb) hs).squeeze
          S96x13440 squeezes_S1x96x13440_S96x13440).view X)⟩]
      (Rect.unit ![0, 0] S96x14336.size inb_S96x14336_S96x14336_0_0).toLoadRect = fillAt i X := by
  obtain ⟨e0, e1, e2, e3⟩ := off_bot i h3
  unfold View.readCov
  refine (View.readAt_full (Memref.whole cc0_scratch0).view _ inb_S96x14336_S96x14336_0_0).trans ?_
  funext j
  obtain ⟨a, p, rfl⟩ : ∃ a p, j = ix2 a p := ⟨_, _, eq_ix2 j⟩
  have hp := p.isLt
  rw [fill_apply]
  by_cases h : p.val < 13440
  · rw [dif_pos (by omega)]
    refine (put_not_mem _ _ _ _ _ a p (.inl (by omega))).trans ?_
    refine (put_mem _ _ _ _ _ a p (⟨p.val, h⟩ : Fin 13440) (by show p.val = 0 + p.val; omega)).trans ?_
    refine read_slice (k0_off3 i) inb hs squeezes_S1x96x13440_S96x13440 X a _ _ ?_ ?_ ?_
    · exact e0.symm
    · rw [e1, Nat.zero_add]
    · show (i 1).val * 12544 + p.val - 896 = _ + p.val
      omega
  · rw [dif_neg (by omega)]
    refine (put_mem _ _ _ _ _ a p (⟨p.val - 13440, by omega⟩ : Fin 896) (by show p.val = 13440 + (p.val - 13440); omega)).trans ?_
    rfl

theorem run_mid (c : Dev nD) (i : grid0.Coords) (h1 : k0_cond1 i = 1#1) (h2 : ¬ k0_cond2 i = 1#1) (h3 : ¬ k0_cond3 i = 1#1) (q : PosShare TreeShare)
    (M3 : Memref sig .tc .vmem S1x96x12544 .f32) (H3 : M3.IsWhole) (M4 : Memref sig .tc .vmem S1x96x1 .f32) (H4 : M4.IsWhole)
    (M5 : Memref sig .tc .vmem S288x288 .bf16) (H5 : M5.IsWhole) (M6 : Memref sig .tc .vmem S288x288 .bf16) (H6 : M6.IsWhole)
    (M7 : Memref sig .tc .vmem S96x1 .f32) (H7 : M7.IsWhole) (M8 : Memref sig .tc .vmem S96x1 .f32) (H8 : M8.IsWhole)
    (M9 : Memref sig .tc .vmem S3x12992 .f32) (H9 : M9.IsWhole) (M10 : Memref sig .tc .vmem S1x96x12544 .f32) (H10 : M10.IsWhole)
    (X : Bf (F := F) c (Memref.whole main_call0_v0)) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (fs : Bf (F := F) c (Memref.whole cc0_scratch0))
    (W : Waits sig Unit) (Q : PUnit → sProp 𝕄) :
    iprop(pt c (Memref.whole main_call0_v0) q X ∗ pt c M3 fullShare f3 ∗ pt c M4 fullShare f4 ∗ pt c M5 fullShare f5 ∗ pt c M6 fullShare f6
      ∗ pt c M7 fullShare f7 ∗ pt c M8 fullShare f8 ∗ pt c M9 fullShare f9 ∗ pt c M10 fullShare f10 ∗ pt c (Memref.whole cc0_scratch0) fullShare fs
      ∗ semVal ((c : Thread nD τ), SemLoc.dma cc0_scratch1.sem) 0 ∗ owes (c : Thread nD τ) 0 W
      ∗ (iprop(pt c (Memref.whole main_call0_v0) q X ∗ pt c M3 fullShare f3 ∗ pt c M4 fullShare f4 ∗ pt c M5 fullShare f5 ∗ pt c M6 fullShare f6
          ∗ pt c M7 fullShare f7 ∗ pt c M8 fullShare f8 ∗ pt c M9 fullShare f9
          ∗ (∃ f, ⌜M10.view.read (Elt F) f = blockOut i (fillAt i X) (M4.view.read (Elt F) f4) (M9.view.read (Elt F) f9) (M5.view.read (Elt F) f5)
              (M6.view.read (Elt F) f6) (M7.view.read (Elt F) f7) (M8.view.read (Elt F) f8) (M3.view.read (Elt F) f3)⌝ ∗ pt c M10 fullShare f)
          ∗ (∃ f, pt c (Memref.whole cc0_scratch0) fullShare f)
          ∗ semVal ((c : Thread nD τ), SemLoc.dma cc0_scratch1.sem) 0 ∗ ∃ W, owes (c : Thread nD τ) 0 W) -∗ Q ⟨⟩))
    ⊢ wp frame (wpE (defs₀ (F := F)) Variants.none c none) Set.univ
        (cc0__body i (Memref.whole main_call0_v0) (Memref.isWhole_whole _) M3 H3 M4 H4 M5 H5 M6 H6 M7 H7 M8 H8 M9 H9 M10 H10
          (Memref.whole cc0_scratch0) (Memref.isWhole_whole _) cc0_scratch1) Q := by
  rw [cc0__body_eq_skeleton]
  unfold cc0__body_skel
  rw [k0_part1_eq_skeleton, k0_part2_eq_skeleton]
  unfold k0_part1_skel k0_part2_skel
  rw [dif_pos h1, dif_neg h2, dif_neg h3]
  iintro ⟨HX, HM3, HM4, HM5, HM6, HM7, HM8, HM9, HM10, HS, Hd, HO, Hk⟩
  sl_exec!
  sl_step
  iapply Hk
  isplitl [HX]; · iexact HX
  isplitl [HM3]; · iexact HM3
  isplitl [HM4]; · iexact HM4
  isplitl [HM5]; · iexact HM5
  isplitl [HM6]; · iexact HM6
  isplitl [HM7]; · iexact HM7
  isplitl [HM8]; · iexact HM8
  isplitl [HM9]; · iexact HM9
  isplitl [HM10]
  · iexists _; isplitr; swap; (· iexact HM10); ipureintro
    unfold run_mid.sl.HM10_1
    rw [View.read_writes_full]
    have hS : run_mid.sl.v16 c i h1 X fs = fillAt i X := by
      exact fill_mid i h1 X fs _ _
    rw [hS,
      show View.readAt (Elt F) M3.view (Rect.unit ![0, 0, 0] ![1, 96, 12544] inb_S1x96x12544_S1x96x12544_0_0_0).toLoadRect f3 = M3.view.read (Elt F) f3 from View.readAt_full ..,
      show View.readAt (Elt F) M4.view (Rect.unit ![0, 0, 0] ![1, 96, 1] inb_S1x96x1_S1x96x1_0_0_0).toLoadRect f4 = M4.view.read (Elt F) f4 from View.readAt_full ..,
      show View.readAt (Elt F) M5.view (Rect.unit ![0, 0] ![288, 288] inb_S288x288_S288x288_0_0).toLoadRect f5 = M5.view.read (Elt F) f5 from View.readAt_full ..,
      show View.readAt (Elt F) M6.view (Rect.unit ![0, 0] ![288, 288] inb_S288x288_S288x288_0_0).toLoadRect f6 = M6.view.read (Elt F) f6 from View.readAt_full ..,
      show View.readAt (Elt F) M7.view (Rect.unit ![0, 0] ![96, 1] inb_S96x1_S96x1_0_0).toLoadRect f7 = M7.view.read (Elt F) f7 from View.readAt_full ..,
      show View.readAt (Elt F) M8.view (Rect.unit ![0, 0] ![96, 1] inb_S96x1_S96x1_0_0).toLoadRect f8 = M8.view.read (Elt F) f8 from View.readAt_full ..]
    rfl
  isplitl [HS]; · iexists _; iexact HS
  isplitl [Hd]; · iexact Hd
  iexists _; iexact HO

theorem run_top (c : Dev nD) (i : grid0.Coords) (h1 : ¬ k0_cond1 i = 1#1) (h2 : k0_cond2 i = 1#1) (h3 : ¬ k0_cond3 i = 1#1) (q : PosShare TreeShare)
    (M3 : Memref sig .tc .vmem S1x96x12544 .f32) (H3 : M3.IsWhole) (M4 : Memref sig .tc .vmem S1x96x1 .f32) (H4 : M4.IsWhole)
    (M5 : Memref sig .tc .vmem S288x288 .bf16) (H5 : M5.IsWhole) (M6 : Memref sig .tc .vmem S288x288 .bf16) (H6 : M6.IsWhole)
    (M7 : Memref sig .tc .vmem S96x1 .f32) (H7 : M7.IsWhole) (M8 : Memref sig .tc .vmem S96x1 .f32) (H8 : M8.IsWhole)
    (M9 : Memref sig .tc .vmem S3x12992 .f32) (H9 : M9.IsWhole) (M10 : Memref sig .tc .vmem S1x96x12544 .f32) (H10 : M10.IsWhole)
    (X : Bf (F := F) c (Memref.whole main_call0_v0)) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (fs : Bf (F := F) c (Memref.whole cc0_scratch0))
    (W : Waits sig Unit) (Q : PUnit → sProp 𝕄) :
    iprop(pt c (Memref.whole main_call0_v0) q X ∗ pt c M3 fullShare f3 ∗ pt c M4 fullShare f4 ∗ pt c M5 fullShare f5 ∗ pt c M6 fullShare f6
      ∗ pt c M7 fullShare f7 ∗ pt c M8 fullShare f8 ∗ pt c M9 fullShare f9 ∗ pt c M10 fullShare f10 ∗ pt c (Memref.whole cc0_scratch0) fullShare fs
      ∗ semVal ((c : Thread nD τ), SemLoc.dma cc0_scratch1.sem) 0 ∗ owes (c : Thread nD τ) 0 W
      ∗ (iprop(pt c (Memref.whole main_call0_v0) q X ∗ pt c M3 fullShare f3 ∗ pt c M4 fullShare f4 ∗ pt c M5 fullShare f5 ∗ pt c M6 fullShare f6
          ∗ pt c M7 fullShare f7 ∗ pt c M8 fullShare f8 ∗ pt c M9 fullShare f9
          ∗ (∃ f, ⌜M10.view.read (Elt F) f = blockOut i (fillAt i X) (M4.view.read (Elt F) f4) (M9.view.read (Elt F) f9) (M5.view.read (Elt F) f5)
              (M6.view.read (Elt F) f6) (M7.view.read (Elt F) f7) (M8.view.read (Elt F) f8) (M3.view.read (Elt F) f3)⌝ ∗ pt c M10 fullShare f)
          ∗ (∃ f, pt c (Memref.whole cc0_scratch0) fullShare f)
          ∗ semVal ((c : Thread nD τ), SemLoc.dma cc0_scratch1.sem) 0 ∗ ∃ W, owes (c : Thread nD τ) 0 W) -∗ Q ⟨⟩))
    ⊢ wp frame (wpE (defs₀ (F := F)) Variants.none c none) Set.univ
        (cc0__body i (Memref.whole main_call0_v0) (Memref.isWhole_whole _) M3 H3 M4 H4 M5 H5 M6 H6 M7 H7 M8 H8 M9 H9 M10 H10
          (Memref.whole cc0_scratch0) (Memref.isWhole_whole _) cc0_scratch1) Q := by
  rw [cc0__body_eq_skeleton]
  unfold cc0__body_skel
  rw [k0_part1_eq_skeleton, k0_part2_eq_skeleton]
  unfold k0_part1_skel k0_part2_skel
  rw [dif_neg h1, dif_pos h2, dif_neg h3]
  iintro ⟨HX, HM3, HM4, HM5, HM6, HM7, HM8, HM9, HM10, HS, Hd, HO, Hk⟩
  sl_exec!
  sl_step
  iapply Hk
  isplitl [HX]; · iexact HX
  isplitl [HM3]; · iexact HM3
  isplitl [HM4]; · iexact HM4
  isplitl [HM5]; · iexact HM5
  isplitl [HM6]; · iexact HM6
  isplitl [HM7]; · iexact HM7
  isplitl [HM8]; · iexact HM8
  isplitl [HM9]; · iexact HM9
  isplitl [HM10]
  · iexists _; isplitr; swap; (· iexact HM10); ipureintro
    unfold run_top.sl.HM10_1
    rw [View.read_writes_full]
    have hS : run_top.sl.v16 c i h2 X = fillAt i X := by
      exact fill_top i h2 X _ _
    rw [hS,
      show View.readAt (Elt F) M3.view (Rect.unit ![0, 0, 0] ![1, 96, 12544] inb_S1x96x12544_S1x96x12544_0_0_0).toLoadRect f3 = M3.view.read (Elt F) f3 from View.readAt_full ..,
      show View.readAt (Elt F) M4.view (Rect.unit ![0, 0, 0] ![1, 96, 1] inb_S1x96x1_S1x96x1_0_0_0).toLoadRect f4 = M4.view.read (Elt F) f4 from View.readAt_full ..,
      show View.readAt (Elt F) M5.view (Rect.unit ![0, 0] ![288, 288] inb_S288x288_S288x288_0_0).toLoadRect f5 = M5.view.read (Elt F) f5 from View.readAt_full ..,
      show View.readAt (Elt F) M6.view (Rect.unit ![0, 0] ![288, 288] inb_S288x288_S288x288_0_0).toLoadRect f6 = M6.view.read (Elt F) f6 from View.readAt_full ..,
      show View.readAt (Elt F) M7.view (Rect.unit ![0, 0] ![96, 1] inb_S96x1_S96x1_0_0).toLoadRect f7 = M7.view.read (Elt F) f7 from View.readAt_full ..,
      show View.readAt (Elt F) M8.view (Rect.unit ![0, 0] ![96, 1] inb_S96x1_S96x1_0_0).toLoadRect f8 = M8.view.read (Elt F) f8 from View.readAt_full ..]
    rfl
  isplitl [HS]; · iexists _; iexact HS
  isplitl [Hd]; · iexact Hd
  iexists _; iexact HO

theorem run_bot (c : Dev nD) (i : grid0.Coords) (h1 : ¬ k0_cond1 i = 1#1) (h2 : ¬ k0_cond2 i = 1#1) (h3 : k0_cond3 i = 1#1) (q : PosShare TreeShare)
    (M3 : Memref sig .tc .vmem S1x96x12544 .f32) (H3 : M3.IsWhole) (M4 : Memref sig .tc .vmem S1x96x1 .f32) (H4 : M4.IsWhole)
    (M5 : Memref sig .tc .vmem S288x288 .bf16) (H5 : M5.IsWhole) (M6 : Memref sig .tc .vmem S288x288 .bf16) (H6 : M6.IsWhole)
    (M7 : Memref sig .tc .vmem S96x1 .f32) (H7 : M7.IsWhole) (M8 : Memref sig .tc .vmem S96x1 .f32) (H8 : M8.IsWhole)
    (M9 : Memref sig .tc .vmem S3x12992 .f32) (H9 : M9.IsWhole) (M10 : Memref sig .tc .vmem S1x96x12544 .f32) (H10 : M10.IsWhole)
    (X : Bf (F := F) c (Memref.whole main_call0_v0)) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (fs : Bf (F := F) c (Memref.whole cc0_scratch0))
    (W : Waits sig Unit) (Q : PUnit → sProp 𝕄) :
    iprop(pt c (Memref.whole main_call0_v0) q X ∗ pt c M3 fullShare f3 ∗ pt c M4 fullShare f4 ∗ pt c M5 fullShare f5 ∗ pt c M6 fullShare f6
      ∗ pt c M7 fullShare f7 ∗ pt c M8 fullShare f8 ∗ pt c M9 fullShare f9 ∗ pt c M10 fullShare f10 ∗ pt c (Memref.whole cc0_scratch0) fullShare fs
      ∗ semVal ((c : Thread nD τ), SemLoc.dma cc0_scratch1.sem) 0 ∗ owes (c : Thread nD τ) 0 W
      ∗ (iprop(pt c (Memref.whole main_call0_v0) q X ∗ pt c M3 fullShare f3 ∗ pt c M4 fullShare f4 ∗ pt c M5 fullShare f5 ∗ pt c M6 fullShare f6
          ∗ pt c M7 fullShare f7 ∗ pt c M8 fullShare f8 ∗ pt c M9 fullShare f9
          ∗ (∃ f, ⌜M10.view.read (Elt F) f = blockOut i (fillAt i X) (M4.view.read (Elt F) f4) (M9.view.read (Elt F) f9) (M5.view.read (Elt F) f5)
              (M6.view.read (Elt F) f6) (M7.view.read (Elt F) f7) (M8.view.read (Elt F) f8) (M3.view.read (Elt F) f3)⌝ ∗ pt c M10 fullShare f)
          ∗ (∃ f, pt c (Memref.whole cc0_scratch0) fullShare f)
          ∗ semVal ((c : Thread nD τ), SemLoc.dma cc0_scratch1.sem) 0 ∗ ∃ W, owes (c : Thread nD τ) 0 W) -∗ Q ⟨⟩))
    ⊢ wp frame (wpE (defs₀ (F := F)) Variants.none c none) Set.univ
        (cc0__body i (Memref.whole main_call0_v0) (Memref.isWhole_whole _) M3 H3 M4 H4 M5 H5 M6 H6 M7 H7 M8 H8 M9 H9 M10 H10
          (Memref.whole cc0_scratch0) (Memref.isWhole_whole _) cc0_scratch1) Q := by
  rw [cc0__body_eq_skeleton]
  unfold cc0__body_skel
  rw [k0_part1_eq_skeleton, k0_part2_eq_skeleton]
  unfold k0_part1_skel k0_part2_skel
  rw [dif_neg h1, dif_neg h2, dif_pos h3]
  iintro ⟨HX, HM3, HM4, HM5, HM6, HM7, HM8, HM9, HM10, HS, Hd, HO, Hk⟩
  sl_exec!
  sl_step
  iapply Hk
  isplitl [HX]; · iexact HX
  isplitl [HM3]; · iexact HM3
  isplitl [HM4]; · iexact HM4
  isplitl [HM5]; · iexact HM5
  isplitl [HM6]; · iexact HM6
  isplitl [HM7]; · iexact HM7
  isplitl [HM8]; · iexact HM8
  isplitl [HM9]; · iexact HM9
  isplitl [HM10]
  · iexists _; isplitr; swap; (· iexact HM10); ipureintro
    unfold run_bot.sl.HM10_1
    rw [View.read_writes_full]
    have hS : run_bot.sl.v16 c i h3 X = fillAt i X := by
      exact fill_bot i h3 X _ _
    rw [hS,
      show View.readAt (Elt F) M3.view (Rect.unit ![0, 0, 0] ![1, 96, 12544] inb_S1x96x12544_S1x96x12544_0_0_0).toLoadRect f3 = M3.view.read (Elt F) f3 from View.readAt_full ..,
      show View.readAt (Elt F) M4.view (Rect.unit ![0, 0, 0] ![1, 96, 1] inb_S1x96x1_S1x96x1_0_0_0).toLoadRect f4 = M4.view.read (Elt F) f4 from View.readAt_full ..,
      show View.readAt (Elt F) M5.view (Rect.unit ![0, 0] ![288, 288] inb_S288x288_S288x288_0_0).toLoadRect f5 = M5.view.read (Elt F) f5 from View.readAt_full ..,
      show View.readAt (Elt F) M6.view (Rect.unit ![0, 0] ![288, 288] inb_S288x288_S288x288_0_0).toLoadRect f6 = M6.view.read (Elt F) f6 from View.readAt_full ..,
      show View.readAt (Elt F) M7.view (Rect.unit ![0, 0] ![96, 1] inb_S96x1_S96x1_0_0).toLoadRect f7 = M7.view.read (Elt F) f7 from View.readAt_full ..,
      show View.readAt (Elt F) M8.view (Rect.unit ![0, 0] ![96, 1] inb_S96x1_S96x1_0_0).toLoadRect f8 = M8.view.read (Elt F) f8 from View.readAt_full ..]
    rfl
  isplitl [HS]; · iexists _; iexact HS
  isplitl [Hd]; · iexact Hd
  iexists _; iexact HO

/-- THE BODY'S RUN at any grid point. -/
theorem body_run (c : Dev nD) (i : grid0.Coords) (q : PosShare TreeShare)
    (M3 : Memref sig .tc .vmem S1x96x12544 .f32) (H3 : M3.IsWhole) (M4 : Memref sig .tc .vmem S1x96x1 .f32) (H4 : M4.IsWhole)
    (M5 : Memref sig .tc .vmem S288x288 .bf16) (H5 : M5.IsWhole) (M6 : Memref sig .tc .vmem S288x288 .bf16) (H6 : M6.IsWhole)
    (M7 : Memref sig .tc .vmem S96x1 .f32) (H7 : M7.IsWhole) (M8 : Memref sig .tc .vmem S96x1 .f32) (H8 : M8.IsWhole)
    (M9 : Memref sig .tc .vmem S3x12992 .f32) (H9 : M9.IsWhole) (M10 : Memref sig .tc .vmem S1x96x12544 .f32) (H10 : M10.IsWhole)
    (X : Bf (F := F) c (Memref.whole main_call0_v0)) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (fs : Bf (F := F) c (Memref.whole cc0_scratch0))
    (W : Waits sig Unit) (Q : PUnit → sProp 𝕄) :
    iprop(pt c (Memref.whole main_call0_v0) q X ∗ pt c M3 fullShare f3 ∗ pt c M4 fullShare f4 ∗ pt c M5 fullShare f5 ∗ pt c M6 fullShare f6
      ∗ pt c M7 fullShare f7 ∗ pt c M8 fullShare f8 ∗ pt c M9 fullShare f9 ∗ pt c M10 fullShare f10 ∗ pt c (Memref.whole cc0_scratch0) fullShare fs
      ∗ semVal ((c : Thread nD τ), SemLoc.dma cc0_scratch1.sem) 0 ∗ owes (c : Thread nD τ) 0 W
      ∗ (iprop(pt c (Memref.whole main_call0_v0) q X ∗ pt c M3 fullShare f3 ∗ pt c M4 fullShare f4 ∗ pt c M5 fullShare f5 ∗ pt c M6 fullShare f6
          ∗ pt c M7 fullShare f7 ∗ pt c M8 fullShare f8 ∗ pt c M9 fullShare f9
          ∗ (∃ f, ⌜M10.view.read (Elt F) f = blockOut i (fillAt i X) (M4.view.read (Elt F) f4) (M9.view.read (Elt F) f9) (M5.view.read (Elt F) f5)
              (M6.view.read (Elt F) f6) (M7.view.read (Elt F) f7) (M8.view.read (Elt F) f8) (M3.view.read (Elt F) f3)⌝ ∗ pt c M10 fullShare f)
          ∗ (∃ f, pt c (Memref.whole cc0_scratch0) fullShare f)
          ∗ semVal ((c : Thread nD τ), SemLoc.dma cc0_scratch1.sem) 0 ∗ ∃ W, owes (c : Thread nD τ) 0 W) -∗ Q ⟨⟩))
    ⊢ wp frame (wpE (defs₀ (F := F)) Variants.none c none) Set.univ
        (cc0__body i (Memref.whole main_call0_v0) (Memref.isWhole_whole _) M3 H3 M4 H4 M5 H5 M6 H6 M7 H7 M8 H8 M9 H9 M10 H10
          (Memref.whole cc0_scratch0) (Memref.isWhole_whole _) cc0_scratch1) Q := by
  rcases cases_of i with ⟨h1, h2, h3⟩ | ⟨h1, h2, h3⟩ | ⟨h1, h2, h3⟩
  · exact run_mid c i h1 h2 h3 q M3 H3 M4 H4 M5 H5 M6 H6 M7 H7 M8 H8 M9 H9 M10 H10 X f3 f4 f5 f6 f7 f8 f9 f10 fs W Q
  · exact run_top c i h1 h2 h3 q M3 H3 M4 H4 M5 H5 M6 H6 M7 H7 M8 H8 M9 H9 M10 H10 X f3 f4 f5 f6 f7 f8 f9 f10 fs W Q
  · exact run_bot c i h1 h2 h3 q M3 H3 M4 H4 M5 H5 M6 H6 M7 H7 M8 H8 M9 H9 M10 H10 X f3 f4 f5 f6 f7 f8 f9 f10 fs W Q

end Cert.Proof.Ideal

end
-- ==== Proof.Ideal.Launch.lean ====
/-
  THE LAUNCH: host operations, the pipelined region, one host operation.

  The images are read twice: staged strip by strip through the first window, and by the body's own transfer straight
  from HBM. The array is held half and half: the window's pipeline holds the left half share, the region's invariant
  the right half, and the halves are rejoined when the region ends.

  `run_main`: every fair execution terminates, and every final state has each unscoped buffer at the contents computed
  here (`finalV`) and every counter at zero.
-/
module

public import proofs.«01_k».proof.Proof.Ideal.Body
public import Idealize.ShloMosaic.Lib.Pipeline.Regions
public import Idealize.ShloMosaic.Lib.Pipeline.FrameTail

@[expose] public section

noncomputable section

namespace Cert.Proof.Ideal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ UU ℕ

variable (m : (ℓ : Loc nD τ sig) → Buf (Elt F) ℓ) (ρ : Dev nD → PrngReg)

/-- The pipeline's algebra is the left component. -/
abbrev EP : Emb (UR sig nD τ) (MT nD τ sig Unit (Elt F) ℕ UU ℕ) := embL

/-- Core `c`'s buffers at launch, -/
abbrev Va (c : Dev nD) : Valuation τ sig (Elt F) := fun b => m (c, b)
/-- and when the region is entered. -/
def Vb (c : Dev nD) : Valuation τ sig (Elt F) := StableHlo.after hostOps0 (Va m c)

theorem Vb_eq (c : Dev nD) (b : Ref sig .tc) : Vb m c (Proc.devRef .tc b) = V m c b := by
  show StableHlo.after hostOps0 _ _ = StableHlo.after (List.flatten [hostOps0]) _ _
  rw [List.flatten_singleton]

/-- The same as the fold over the operations before the region. -/
theorem Vb_def (c : Dev nD) : Vb m c = StableHlo.after hostOps0 (Va m c) := rfl

/-! ## The proof data -/

/-- Window `w`'s block of its array at point `t`, at the region's entry contents. -/
def blkIn (c : Dev nD) (w : Fin cfg0.W) (t : Fin cfg0.N) : ((cfg0.win w).xblock (cfg0.grid.coords t)).Idx → Elt F (cfg0.win w).elt :=
  ((cfg0.win w).blk t).view.read (Elt F) (Vb m c (Proc.devRef .tc (Pipeline.arrRef spec0 w)))

/-- The images as the body's transfer finds them. -/
def imgs (c : Dev nD) : S4x96x50176.Idx → Elt F .f32 := Vb m c (Proc.devRef .tc main_call0_v0)

/-- The output strip at point `t`. -/
def strip (c : Dev nD) (t : Fin cfg0.N) : (cfg0.win 7).block.Idx → Elt F (cfg0.win 7).elt :=
  blockOut (grid0.coords t) (fillAt (grid0.coords t) (imgs m c)) (blkIn m c 1 t) (blkIn m c 6 t) (blkIn m c 2 t) (blkIn m c 3 t)
    (blkIn m c 4 t) (blkIn m c 5 t) (blkIn m c 0 t)

theorem strip_eq (c : Dev nD) (t : Fin cfg0.N) : strip m c t
    = blockOut (grid0.coords t) (fillAt (grid0.coords t) (imgs m c)) (blkIn m c 1 t) (blkIn m c 6 t) (blkIn m c 2 t) (blkIn m c 3 t)
      (blkIn m c 4 t) (blkIn m c 5 t) (blkIn m c 0 t) := rfl

theorem imgs_eq (c : Dev nD) : imgs m c = Vb m c (Proc.devRef .tc main_call0_v0) := rfl

attribute [local irreducible] Vb blkIn imgs strip

/-- What is carried between points: the scratch at something, the transfer's counter at zero, the images' half share. -/
def Φc (c : Dev nD) : sProp 𝕄 :=
  iprop((∃ f, pt c (Memref.whole cc0_scratch0) fullShare f) ∗ semVal ((c : Thread nD τ), SemLoc.dma cc0_scratch1.sem) 0
    ∗ pt c (Memref.whole main_call0_v0) fullShare.right (imgs m c))

/-- The proof data, the images' window held at share `q`. -/
def datsQ (q : PosShare TreeShare) (_ : Fin 1) (c : Dev nD) : Dat τ (Elt F) Unit ℕ UU ℕ cfg0 c where
  A w := Vb m c (Proc.devRef .tc (Pipeline.arrRef spec0 w))
  after w t := match w with
    | ⟨0, _⟩ => blkIn m c 0 t | ⟨1, _⟩ => blkIn m c 1 t | ⟨2, _⟩ => blkIn m c 2 t | ⟨3, _⟩ => blkIn m c 3 t
    | ⟨4, _⟩ => blkIn m c 4 t | ⟨5, _⟩ => blkIn m c 5 t | ⟨6, _⟩ => blkIn m c 6 t | ⟨7, _⟩ => strip m c t
  Φ _ := Φc m c
  q w := if w = 0 then q else fullShare
  owed _ := 0

/-- The proof data: the left half. -/
abbrev dats := datsQ m (fullShare.left)

theorem A_eq (q : PosShare TreeShare) (c : Dev nD) (w : Fin cfg0.W) :
    (datsQ m q 0 c).A w = Vb m c (Proc.devRef .tc (Pipeline.arrRef spec0 w)) := by dsimp only [datsQ]

theorem before_0 (c : Dev nD) (t : Fin cfg0.N) (d) : (dats m 0 c).before 0 t d = blkIn m c 0 t :=
  ((dats m 0 c).before_in_eq_fetched 0 rfl (fun _ => rfl) (fun _ _ _ => rfl)
    (fun t => by rw [show (dats m 0 c).after 0 t = blkIn m c 0 t from rfl]; unfold Dat.blockOf blkIn; rw [A_eq]; try rfl) t d).trans
    (by unfold Dat.fetched Dat.blockOf blkIn; rw [A_eq]; try rfl)
theorem before_1 (c : Dev nD) (t : Fin cfg0.N) (d) : (dats m 0 c).before 1 t d = blkIn m c 1 t :=
  ((dats m 0 c).before_in_eq_fetched 1 rfl (fun _ => rfl) (fun _ _ _ => rfl)
    (fun t => by rw [show (dats m 0 c).after 1 t = blkIn m c 1 t from rfl]; unfold Dat.blockOf blkIn; rw [A_eq]; try rfl) t d).trans
    (by unfold Dat.fetched Dat.blockOf blkIn; rw [A_eq]; try rfl)
theorem before_2 (c : Dev nD) (t : Fin cfg0.N) (d) : (dats m 0 c).before 2 t d = blkIn m c 2 t :=
  ((dats m 0 c).before_in_eq_fetched 2 rfl (fun _ => rfl) (fun _ _ _ => rfl)
    (fun t => by rw [show (dats m 0 c).after 2 t = blkIn m c 2 t from rfl]; unfold Dat.blockOf blkIn; rw [A_eq]; try rfl) t d).trans
    (by unfold Dat.fetched Dat.blockOf blkIn; rw [A_eq]; try rfl)
theorem before_3 (c : Dev nD) (t : Fin cfg0.N) (d) : (dats m 0 c).before 3 t d = blkIn m c 3 t :=
  ((dats m 0 c).before_in_eq_fetched 3 rfl (fun _ => rfl) (fun _ _ _ => rfl)
    (fun t => by rw [show (dats m 0 c).after 3 t = blkIn m c 3 t from rfl]; unfold Dat.blockOf blkIn; rw [A_eq]; try rfl) t d).trans
    (by unfold Dat.fetched Dat.blockOf blkIn; rw [A_eq]; try rfl)
theorem before_4 (c : Dev nD) (t : Fin cfg0.N) (d) : (dats m 0 c).before 4 t d = blkIn m c 4 t :=
  ((dats m 0 c).before_in_eq_fetched 4 rfl (fun _ => rfl) (fun _ _ _ => rfl)
    (fun t => by rw [show (dats m 0 c).after 4 t = blkIn m c 4 t from rfl]; unfold Dat.blockOf blkIn; rw [A_eq]; try rfl) t d).trans
    (by unfold Dat.fetched Dat.blockOf blkIn; rw [A_eq]; try rfl)
theorem before_5 (c : Dev nD) (t : Fin cfg0.N) (d) : (dats m 0 c).before 5 t d = blkIn m c 5 t :=
  ((dats m 0 c).before_in_eq_fetched 5 rfl (fun _ => rfl) (fun _ _ _ => rfl)
    (fun t => by rw [show (dats m 0 c).after 5 t = blkIn m c 5 t from rfl]; unfold Dat.blockOf blkIn; rw [A_eq]; try rfl) t d).trans
    (by unfold Dat.fetched Dat.blockOf blkIn; rw [A_eq]; try rfl)
theorem before_6 (c : Dev nD) (t : Fin cfg0.N) (d) : (dats m 0 c).before 6 t d = blkIn m c 6 t :=
  ((dats m 0 c).before_in_eq_fetched 6 rfl (fun _ => rfl) (fun _ _ _ => rfl)
    (fun t => by rw [show (dats m 0 c).after 6 t = blkIn m c 6 t from rfl]; unfold Dat.blockOf blkIn; rw [A_eq]; try rfl) t d).trans
    (by unfold Dat.fetched Dat.blockOf blkIn; rw [A_eq]; try rfl)

/-- A whole buffer owned at contents read through its memref. -/
theorem owns_isWhole (c : Dev nD) {sp : Space} {S : Shape} {e : EltTy} (M : Memref sig .tc sp S e) (h : M.IsWhole) (q : PosShare TreeShare)
    (X : S.Idx → Elt F e) :
    (owns (c : Thread nD τ) M q X : sProp 𝕄) = iprop(∃ f, ⌜M.view.read (Elt F) f = X⌝ ∗ pt c M q f) := by
  unfold owns; rw [h.set_eq_univ]

/-- The windows' current staging buffers are whole. -/
theorem st_whole (t : Fin cfg0.N) (w : Fin 8) : ((cfg0.win w).stage (cfg0.slots t w)).IsWhole := stage_whole0 w _

/-- The body obligation: the staging buffers and the invariant taken apart, `body_run` applied, its post reassembled. -/
theorem body_obligation (c : Dev nD) : BodyObligation (dats m 0 c) (defs₀ (F := F)) Variants.none () Set.univ := fun t => by
  rw [bigSep_W0, bigSep_W0]
  simp only [owns_isWhole c _ (st_whole t 0), owns_isWhole c _ (st_whole t 1), owns_isWhole c _ (st_whole t 2), owns_isWhole c _ (st_whole t 3), owns_isWhole c _ (st_whole t 4), owns_isWhole c _ (st_whole t 5), owns_isWhole c _ (st_whole t 6), owns_isWhole c _ (st_whole t 7)]
  rw [show (dats m 0 c).Φ t.castSucc = Φc m c from rfl, show (dats m 0 c).Φ t.succ = Φc m c from rfl]
  unfold Φc Dat.owesAt Pipeline.owesWithin
  rw [show (dats m 0 c).owed t.castSucc = 0 from rfl, show (dats m 0 c).owed t.succ = 0 from rfl]
  iintro ⟨⟨⟨%fs, Hs⟩, Hd, HX⟩, ⟨%W, %hW, HO⟩, ⟨%d0, %f0, %hf0, H0⟩, ⟨%d1, %f1, %hf1, H1⟩, ⟨%d2, %f2, %hf2, H2⟩, ⟨%d3, %f3, %hf3, H3⟩,
    ⟨%d4, %f4, %hf4, H4⟩, ⟨%d5, %f5, %hf5, H5⟩, ⟨%d6, %f6, %hf6, H6⟩, ⟨%d7, %f7, %hf7, H7⟩⟩
  rw [before_0] at hf0
  rw [before_1] at hf1
  rw [before_2] at hf2
  rw [before_3] at hf3
  rw [before_4] at hf4
  rw [before_5] at hf5
  rw [before_6] at hf6
  iapply (body_run c (grid0.coords t) fullShare.right (st0_0 t) (st_whole t 0) (st0_1 t) (st_whole t 1) (st0_2 t) (st_whole t 2)
    (st0_3 t) (st_whole t 3) (st0_4 t) (st_whole t 4) (st0_5 t) (st_whole t 5) (st0_6 t) (st_whole t 6) (st0_7 t) (st_whole t 7)
    (imgs m c) f0 f1 f2 f3 f4 f5 f6 f7 fs W)
  isplitl [HX]; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  isplitl [Hd]; · iexact Hd
  isplitl [HO]; · iexact HO
  iintro ⟨HX, H0, H1, H2, H3, H4, H5, H6, ⟨%g, %hg, H7⟩, Hs, Hd, ⟨%W', HO⟩⟩
  isplitl [HX Hs Hd]
  · isplitl [Hs]; · iexact Hs
    isplitl [Hd] <;> iassumption
  isplitl [HO]
  · iexists W'; isplitr; · ipureintro; exact fun _ _ => Or.inl trivial
    iexact HO
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  iexists g; isplitr; swap; (· iexact H7); ipureintro
  rw [hf0, hf1, hf2, hf3, hf4, hf5, hf6] at hg
  exact hg.trans (strip_eq m c t).symm

/-! ## The images' array, half and half -/

/-- The arrays at contents `G`: the images' at share `q`, the others whole. -/
theorem arrays_eq (q : PosShare TreeShare) (c : Dev nD) (G : (w : Fin cfg0.W) → Buf (Elt F) ((cfg0.win w).arr.view.loc (c : Thread nD τ))) :
    ((datsQ m q 0 c).arrays G : sProp 𝕄) = iprop((((c : Thread nD τ).loc main_call0_v0) ↦{q} (G 0 : Buf (Elt F) ((c : Thread nD τ).loc main_call0_v0)))
      ∗ bigSep (Finset.univ.erase (0 : Fin 8)) fun w => ((c : Thread nD τ).loc (Pipeline.arrRef spec0 w)) ↦{fullShare} G w) := by
  unfold Dat.arrays
  rw [BI.bigSep_univ_split (0 : Fin 8)]
  refine congr (congrArg _ ?_) (BI.bigSep_congr fun w hw => ?_)
  · rw [(arr_whole0 0).set_eq_univ]; rfl
  · rw [(arr_whole0 w).set_eq_univ, show (datsQ m q 0 c).share w = fullShare from ?_]
    unfold Dat.share datsQ
    simp [Finset.ne_of_mem_erase hw]

/-- Held at full share everywhere. -/
theorem share_full (c : Dev nD) : ∀ w, (datsQ m fullShare 0 c).share w = fullShare :=
  (datsQ m fullShare 0 c).share_full fun w => by
    show (if w = 0 then fullShare else fullShare) = fullShare
    split <;> rfl

/-- The images' array as window `0` holds it. -/
abbrev pt0 (c : Dev nD) (q : PosShare TreeShare) (f : Buf (Elt F) ((c : Thread nD τ).loc main_call0_v0)) : sProp 𝕄 :=
  ((c : Thread nD τ).loc main_call0_v0) ↦{q} f

theorem arrays_halve (c : Dev nD) (G : (w : Fin cfg0.W) → Buf (Elt F) ((cfg0.win w).arr.view.loc (c : Thread nD τ))) :
    ((datsQ m fullShare 0 c).arrays G : sProp 𝕄) ⊢ iprop((dats m 0 c).arrays G ∗ pt0 c fullShare.right (G 0)) := by
  rw [arrays_eq, arrays_eq]
  iintro ⟨H0, Hr⟩
  ihave H := (pointsTo_share (PosShare.mem_left_op_right fullShare)).1 $$ H0
  icases H with ⟨Hl, Hh⟩
  isplitr [Hh]
  · isplitl [Hl] <;> iassumption
  iexact Hh

theorem arrays_join (c : Dev nD) (G : (w : Fin cfg0.W) → Buf (Elt F) ((cfg0.win w).arr.view.loc (c : Thread nD τ))) :
    iprop((dats m 0 c).arrays G ∗ pt0 c fullShare.right (G 0)) ⊢ ((datsQ m fullShare 0 c).arrays G : sProp 𝕄) := by
  rw [arrays_eq, arrays_eq]
  iintro ⟨⟨Hl, Hr⟩, Hh⟩
  isplitr [Hr]
  · iapply (pointsTo_share (PosShare.mem_left_op_right fullShare)).2
    isplitl [Hl] <;> iassumption
  iexact Hr

/-! ## The launch -/

/-- The body's own semaphore. -/
abbrev osem : Fin 1 → SemLoc sig := fun _ => .dma 11

/-- It is scoped and no staging semaphore. -/
theorem ownSemFacts : Pipeline.OwnSemFacts spec0 osem := by decide

/-- The launch element: the pipeline's at the staging cells; no counter yet. -/
def u₀ : UU := (initOf (Pipeline.cells cfgs cellOf_inj) (Pipeline.launchToks cfgs cellOf_inj), 1)

omit [FloatOps F] in
theorem ownSems0_eq (c : Dev nD) :
    (Pipeline.ownSems0 (Ix := Unit) (Name := ℕ) (U := UU) (Lvl := ℕ) (Val := Elt F) (τ := τ) osem c : sProp 𝕄)
      = semVal ((c : Thread nD τ), SemLoc.dma cc0_scratch1.sem) 0 :=
  (Pipeline.ownSems0_eq_of_list c osem [0] (by decide) (by decide)).trans rfl

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- The core owes nothing. -/
abbrev R (c : Dev nD) : sProp 𝕄 := iprop(∃ W, owes (c : Thread nD τ) (0 : CellTallies nD τ sig Unit) W)

/-- Core `c`'s buffers when the region is left, -/
def Vc (c : Dev nD) : Valuation τ sig (Elt F) := Pipeline.afterRegion (dats m 0 c) (Vb m c)
/-- and at the end. -/
def finalV (c : Dev nD) : Valuation τ sig (Elt F) := StableHlo.after hostOps1 (Vc m c)

/-- The operations before the region, -/
def seg0 : Pipeline.HostSeg (Name := ℕ) (U := UU) (pcfgs (F := F)) defs₀ Variants.none L lv :=
  Pipeline.HostSeg.ofOps _ _ _ _ _ (ucRefs τ sig) hostOps0
    (fun op h => Pipeline.sub_ucRefs op ((List.forall_iff_forall_mem.mp hostOps0_sub) op h))
    (List.forall_iff_forall_mem.mp hostOps0_fresh) (Va m) R
/-- and those after it. -/
def seg1 : Pipeline.HostSeg (Name := ℕ) (U := UU) (pcfgs (F := F)) defs₀ Variants.none L lv :=
  Pipeline.HostSeg.ofOps _ _ _ _ _ (ucRefs τ sig) hostOps1
    (fun op h => Pipeline.sub_ucRefs op ((List.forall_iff_forall_mem.mp hostOps1_sub) op h))
    (List.forall_iff_forall_mem.mp hostOps1_fresh) (Vc m) R

set_option backward.isDefEq.respectTransparency.types false in
/-- The region: entered with the arrays split off the unscoped buffers and the images' right half put into the
    invariant, left with the halves rejoined. -/
def reg0 : Pipeline.RegionSeg (pcfgs (F := F)) adm (dats m) () defs₀ Variants.none L lv 0 where
  win := launch0.win.to₀
  block_pos := launch0.block_pos
  stage_whole := launch0.stage_whole
  K := Fin 1
  osem := osem
  ho := ownSemFacts
  hbody c := (body_obligation m c).loose
  hwaits := Pipeline.hwaits_of_owed_zero _ _ _ _ L lv 0 fun _ _ => rfl
  pre c := iprop(StableHlo.held (c : Thread nD τ) (ucRefs τ sig) (Vb m c) ∗ R c)
  post c := iprop(StableHlo.held (c : Thread nD τ) (ucRefs τ sig) (Vc m c) ∗ R c)
  X c := iprop(pt0 c fullShare.right (imgs m c) ∗ semVal ((c : Thread nD τ), SemLoc.dma cc0_scratch1.sem) 0)
  Y c := pt0 c fullShare.right (imgs m c)
  Z c := Pipeline.unscopedRest (Ix := Unit) (Name := ℕ) (U := UU) (Lvl := ℕ) spec0 c (fun b => Vb m c (Proc.devRef .tc b))
  hentry c := by
    rw [show StableHlo.held (c : Thread nD τ) (ucRefs τ sig) (Vb m c) = unscopedBufs c (fun b => Vb m c (Proc.devRef .tc b))
      from (Pipeline.unscopedBufs_held (Ix := Unit) (Name := ℕ) (U := UU) (Lvl := ℕ) c (Vb m c)).symm, ownSems0_eq]
    have hsplit := (Pipeline.arrays_of_unscopedBufs (pcfgs (F := F)) adm (datsQ m fullShare) launch0.win launch0.arr_whole c
      (share_full m c) (fun b => Vb m c (Proc.devRef .tc b)) (A_eq m fullShare c)).trans (sep_mono (arrays_halve m c _) .rfl)
    iintro ⟨⟨Hub, HO⟩, Hos, -⟩
    ihave H := hsplit $$ Hub
    icases H with ⟨⟨Ha, Hh⟩, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hh Hos]
    · isplitl [Hh]
      · rw [imgs_eq]; iexact Hh
      iexact Hos
    iexact Hrest
  hin c := by
    rw [show (dats m 0 c).Φ 0 = Φc m c from rfl, scopedRest0_eq]; unfold Φc
    iintro ⟨⟨Hh, Hos⟩, -, Hr⟩
    isplitl [Hr]; · iexact Hr
    isplitl [Hos] <;> iassumption
  hout c := by
    rw [ownSems0_eq, show (dats m 0 c).Φ (Fin.last cfg0.N) = Φc m c from rfl, scopedRest0_eq]; unfold Φc
    iintro ⟨Hr, Hos, Hh⟩
    isplitl [Hh]; · iexact Hh
    isplitl [Hos] <;> iassumption
  hexit c := by
    have hjoin := (sep_mono (arrays_join m c ((dats m 0 c).arrAt · cfg0.N)) .rfl).trans
      (Pipeline.unscopedBufs_of_arrays (p := 0) (pcfgs (F := F)) adm (Ix := Unit) (Name := ℕ) (U := UU) (Lvl := ℕ)
        launch0.win launch0.arr_whole c (datsQ m fullShare) (share_full m c)
        (fun b => Vb m c (Proc.devRef .tc b)) (fun b => Vc m c (Proc.devRef .tc b)) ((dats m 0 c).arrAt · cfg0.N)
        (fun w => (Pipeline.afterRegion_arr (dats m 0 c) (Vb m c) launch0.win.arr_inj w).symm)
        (fun b hb => Pipeline.afterRegion_of_not_arr (dats m 0 c) (Vb m c)
          fun w h => hb (h ▸ Finset.mem_image.mpr ⟨w, Finset.mem_univ _, rfl⟩)))
    rw [show StableHlo.held (c : Thread nD τ) (ucRefs τ sig) (Vc m c) = unscopedBufs c (fun b => Vc m c (Proc.devRef .tc b))
      from (Pipeline.unscopedBufs_held (Ix := Unit) (Name := ℕ) (U := UU) (Lvl := ℕ) c (Vc m c)).symm]
    have h0 : imgs m c = (dats m 0 c).arrAt 0 cfg0.N := by
      rw [(dats m 0 c).arrAt_in 0 rfl, A_eq, imgs_eq]
    rw [h0]
    iintro ⟨Ha, HO, Hh, Hrest⟩
    imodintro
    isplitr [HO]
    · iapply hjoin
      isplitl [Ha Hh]
      · isplitl [Ha] <;> iassumption
      iexact Hrest
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none L lv) :=
  [.host (seg0 m), .region (reg0 m), .host (seg1 m)]

set_option backward.isDefEq.respectTransparency.types false in
/-- THE RUN: from any memory with zero counters every weakly fair execution of @main terminates, with every unscoped
    buffer at `finalV` and every counter at zero. -/
theorem run_main : θ_run defs (onTc (τ := τ) (main (F := F))) (s₀ m ρ) (fun r =>
    (∀ c : Dev nD, ∀ b ∈ ucRefs τ sig, r.2.mem ((c : Thread nD τ).1, b) = finalV m c b) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (Va m c) ∗ R c))
    (Tₙ := fun c => StableHlo.held (c : Thread nD τ) (ucRefs τ sig) (finalV m c))
    (hch := ⟨fun _ => .rfl, fun c => Entails.of_eq (by
      show iprop(StableHlo.held (c : Thread nD τ) (ucRefs τ sig) (StableHlo.after hostOps0 (Va m c)) ∗ R c) = iprop(StableHlo.held (c : Thread nD τ) (ucRefs τ sig) (Vb m c) ∗ R c)
      rw [Vb_def]), fun _ => .rfl, fun _ => .rfl⟩)
    (hinit := by
      refine Pipeline.initEach L lv fun c => ?_
      rw [show unscopedBufs c (fun b => m ((c : Thread nD τ).loc b)) = StableHlo.held (c : Thread nD τ) (ucRefs τ sig) (Va m c)
        from Pipeline.unscopedBufs_held c (Va m c)]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = finalV m c b)
    (hfin := fun c s' => by
      unfold StableHlo.held
      iintro ⟨Hh, HSI⟩
      ihave Hr := (pointsTo_read_all (ucRefs τ sig) (fun b => ((c : Thread nD τ).1, b)) (finalV m c) s') $$ [Hh HSI]
      · isplitl [Hh] <;> iassumption
      imodintro; iexact Hr)
    (hQ := fun _ h hz => ⟨h, funext fun g => hz g (.inr (by revert g; decide))⟩)

end Cert.Proof.Ideal

end
-- ==== Proof.Ideal.Frame.lean ====
/-
  THE ARGUMENTS END UNCHANGED: no host operation writes an argument and no window's array is one, so each argument's
  buffer at the end is as launched. With `run_main`: `run_result`, the frame of the program together with its result.
-/
module

public import proofs.«01_k».proof.Proof.Ideal.Launch

@[expose] public section

noncomputable section

namespace Cert.Proof.Ideal

open Cert.KernelIdeal Cert.KernelIdeal.Gen
open Idealize.ShloMosaic
open Idealize.ShloMosaic.TcCoe
open Idealize.SL Idealize.SL.Sem
open Idealize.ShloMosaic.Pipeline (ucRefs)

variable {F : FTy → Type} [FloatOps F]

variable (m : (ℓ : Loc nD τ sig) → Buf (Elt F) ℓ) (ρ : Dev nD → PrngReg)

/-- A buffer the last operation does not write and no window stages is at the end as the region found it. -/
theorem final_keep (c : Dev nD) (b : Ref sig .tc) (h0 : b ≠ main_v0) (hw : ∀ w, b ≠ Pipeline.arrRef spec0 w) :
    finalV m c (Proc.devRef .tc b) = V m c b := by
  unfold finalV
  rw [StableHlo.after_of_forall_not_mem (b := Proc.devRef .tc b) hostOps1 (Vc m c) (List.forall_iff_forall_mem.mp (by
    simp only [hostOps1, List.Forall, StableHlo.reshape_writes, Finset.mem_singleton]
    exact StableHlo.devRef_ne_of_ne h0))]
  unfold Vc
  rw [Pipeline.afterRegion_of_not_arr _ _ hw, Vb_eq]

theorem final_arg0 (c : Dev nD) : finalV m c (Proc.devRef .tc main_arg0) = m ((c : Thread nD τ).loc main_arg0) :=
  (final_keep m c main_arg0 (by decide) (by exact (by decide : ∀ w, main_arg0 ≠ Pipeline.arrRef spec0 w))).trans (V_main_arg0 m c)
theorem final_arg1 (c : Dev nD) : finalV m c (Proc.devRef .tc main_arg1) = m ((c : Thread nD τ).loc main_arg1) :=
  (final_keep m c main_arg1 (by decide) (by exact (by decide : ∀ w, main_arg1 ≠ Pipeline.arrRef spec0 w))).trans (V_main_arg1 m c)
theorem final_arg2 (c : Dev nD) : finalV m c (Proc.devRef .tc main_arg2) = m ((c : Thread nD τ).loc main_arg2) :=
  (final_keep m c main_arg2 (by decide) (by exact (by decide : ∀ w, main_arg2 ≠ Pipeline.arrRef spec0 w))).trans (V_main_arg2 m c)
theorem final_arg3 (c : Dev nD) : finalV m c (Proc.devRef .tc main_arg3) = m ((c : Thread nD τ).loc main_arg3) :=
  (final_keep m c main_arg3 (by decide) (by exact (by decide : ∀ w, main_arg3 ≠ Pipeline.arrRef spec0 w))).trans (V_main_arg3 m c)
theorem final_arg4 (c : Dev nD) : finalV m c (Proc.devRef .tc main_arg4) = m ((c : Thread nD τ).loc main_arg4) :=
  (final_keep m c main_arg4 (by decide) (by exact (by decide : ∀ w, main_arg4 ≠ Pipeline.arrRef spec0 w))).trans (V_main_arg4 m c)
theorem final_arg5 (c : Dev nD) : finalV m c (Proc.devRef .tc main_arg5) = m ((c : Thread nD τ).loc main_arg5) :=
  (final_keep m c main_arg5 (by decide) (by exact (by decide : ∀ w, main_arg5 ≠ Pipeline.arrRef spec0 w))).trans (V_main_arg5 m c)

/-- THE PROGRAM'S RUN: it terminates; the result's buffer ends at `finalV`, the arguments as launched, every counter at
    zero. -/
theorem run_result : θ_run (defs (F := F)) (onTc (τ := τ) (main (F := F))) ⟨m, fun _ => 0, ρ⟩ (fun r =>
    (∀ c : Dev nD, r.2.mem ((c.tc : Thread nD τ).loc main_v0) = finalV m c (Proc.devRef .tc main_v0)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
    ∧ r.2.sem = fun _ => 0) :=
  (θ_run defs _ _).mono (fun r h => ⟨fun c => ⟨h.1 c _ (Pipeline.devRef_mem_ucRefs rfl),
    (h.1 c _ (Pipeline.devRef_mem_ucRefs rfl)).trans (final_arg0 m c),
    (h.1 c _ (Pipeline.devRef_mem_ucRefs rfl)).trans (final_arg1 m c),
    (h.1 c _ (Pipeline.devRef_mem_ucRefs rfl)).trans (final_arg2 m c),
    (h.1 c _ (Pipeline.devRef_mem_ucRefs rfl)).trans (final_arg3 m c),
    (h.1 c _ (Pipeline.devRef_mem_ucRefs rfl)).trans (final_arg4 m c),
    (h.1 c _ (Pipeline.devRef_mem_ucRefs rfl)).trans (final_arg5 m c)⟩, h.2⟩) (run_main m ρ)

end Cert.Proof.Ideal

end
-- ==== Proof.Ref.Run.lean ====
/-
  THE REFERENCE PROGRAM'S RUN. Its @main is a straight line of host operations, cut here into six stretches: pad the
  images, convolve (nine taps), bias/gate/mask/relu, pad the hidden images, convolve, bias/gate/mask/relu and the
  residual. Each stretch's result is stated as a function of the arrays it reads; `ref_run` chains them.
-/
module

public import proofs.«01_k».proof.Proof.Gen.ReferenceIdeal
public import Idealize.ShloMosaic.Lib.StableHlo.Run
public import Idealize.ShloMosaic.Lib.StableHlo.RunRead
public import Idealize.ShloMosaic.Lib.Quiescent

@[expose] public section

noncomputable section

namespace Cert.Proof.Ref

open Cert.ReferenceIdeal Cert.ReferenceIdeal.Gen
open Idealize.ShloMosaic
open Idealize.ShloMosaic.TcCoe
open Idealize.SL.Sem Idealize.ShloMosaic.StableHlo

variable {F : FTy → Type} [FloatOps F]

/-! ## What the stretches compute -/

/-- An image array with a row and a column of zeros on every side. -/
def padOf (x : Vec F S4x96x224x224 .f32) : Vec F S4x96x226x226 .f32 :=
  pad S4x96x226x226 ![0, 0, 1, 1] ![0, 0, 1, 1] ![0, 0, 0, 0] x (sitofp .f32 (constantI S_ 32 0#32))
    pads_S4x96x224x224_S4x96x226x226_000_000_110_110 h_S_

/-- One tap: the padded images' window at one offset, contracted over the channels with the filter's matrix there. -/
def tapOf (ow : Fin 4 → ℕ) (hw : S96x96x3x3.Slices ow S96x96x1x1) (ox : Fin 4 → ℕ) (hx : S4x96x226x226.Slices ox S4x96x224x224)
    (xp : Vec F S4x96x226x226 .f32) (w : Vec F S96x96x3x3 .f32) : Vec F S4x96x224x224 .f32 :=
  transpose S4x96x224x224 [0, 3, 1, 2]
    (Host.dotGeneral dot_S4x96x224x224_S96x96_S4x224x224x96_1_1_023_0_n_n none
      (extractStridedSlice S4x96x224x224 ox xp hx)
      (shapeCast S96x96 (extractStridedSlice S96x96x1x1 ow w hw) shapeCasts_S96x96x1x1_S96x96))
    transposes_S4x224x224x96_S4x96x224x224_0_3_1_2

/-- The convolution of padded images: the nine taps added up, from zero. -/
def convOf (xp : Vec F S4x96x226x226 .f32) (w : Vec F S96x96x3x3 .f32) : Vec F S4x96x224x224 .f32 :=
  addf (addf (addf (addf (addf (addf (addf (addf (addf (broadcastInDim S4x96x224x224 ![] bcast_S_S4x96x224x224 (constant S_ .f32 0x00000000#32))
    (tapOf ![0, 0, 0, 0] slices_S96x96x3x3_S96x96x1x1_0_0_0_0 ![0, 0, 0, 0] slices_S4x96x226x226_S4x96x224x224_0_0_0_0 xp w))
    (tapOf ![0, 0, 0, 1] slices_S96x96x3x3_S96x96x1x1_0_0_0_1 ![0, 0, 0, 1] slices_S4x96x226x226_S4x96x224x224_0_0_0_1 xp w))
    (tapOf ![0, 0, 0, 2] slices_S96x96x3x3_S96x96x1x1_0_0_0_2 ![0, 0, 0, 2] slices_S4x96x226x226_S4x96x224x224_0_0_0_2 xp w))
    (tapOf ![0, 0, 1, 0] slices_S96x96x3x3_S96x96x1x1_0_0_1_0 ![0, 0, 1, 0] slices_S4x96x226x226_S4x96x224x224_0_0_1_0 xp w))
    (tapOf ![0, 0, 1, 1] slices_S96x96x3x3_S96x96x1x1_0_0_1_1 ![0, 0, 1, 1] slices_S4x96x226x226_S4x96x224x224_0_0_1_1 xp w))
    (tapOf ![0, 0, 1, 2] slices_S96x96x3x3_S96x96x1x1_0_0_1_2 ![0, 0, 1, 2] slices_S4x96x226x226_S4x96x224x224_0_0_1_2 xp w))
    (tapOf ![0, 0, 2, 0] slices_S96x96x3x3_S96x96x1x1_0_0_2_0 ![0, 0, 2, 0] slices_S4x96x226x226_S4x96x224x224_0_0_2_0 xp w))
    (tapOf ![0, 0, 2, 1] slices_S96x96x3x3_S96x96x1x1_0_0_2_1 ![0, 0, 2, 1] slices_S4x96x226x226_S4x96x224x224_0_0_2_1 xp w))
    (tapOf ![0, 0, 2, 2] slices_S96x96x3x3_S96x96x1x1_0_0_2_2 ![0, 0, 2, 2] slices_S4x96x226x226_S4x96x224x224_0_0_2_2 xp w)

/-- Bias, gate and channel mask, then relu. -/
def actOf (y : Vec F S4x96x224x224 .f32) (b : Vec F S96 .f32) (g : Vec F S4x96 .f32) : Vec F S4x96x224x224 .f32 :=
  maximumf
    (mulf
      (mulf
        (broadcastInDim S4x96x224x224 ![0, 1, 2, 3] bcast_S4x96x1x1_S4x96x224x224_0_1_2_3
          (broadcastInDim S4x96x1x1 ![0, 1] bcast_S4x96_S4x96x1x1_0_1
            (select (cmpf .ogt g (broadcastInDim S4x96 ![] bcast_S_S4x96 (constant S_ .f32 0x00000000#32))) g
              (broadcastInDim S4x96 ![] bcast_S_S4x96 (constant S_ .f32 0x00000000#32)))))
        (addf y (broadcastInDim S4x96x224x224 ![0, 1, 2, 3] bcast_S1x96x1x1_S4x96x224x224_0_1_2_3
          (broadcastInDim S1x96x1x1 ![1] bcast_S96_S1x96x1x1_1 b))))
      (broadcastInDim S4x96x224x224 ![0, 1, 2, 3] bcast_S1x96x1x1_S4x96x224x224_0_1_2_3
        (broadcastInDim S1x96x1x1 ![1] bcast_S96_S1x96x1x1_1
          (uitofp .f32 (cmpf .ogt (Host.reduceAdd g (constant S_ .f32 0x00000000#32) reducesTo_S4x96_S96_d0 h_S_)
            (broadcastInDim S96 ![] bcast_S_S96 (constant S_ .f32 0x00000000#32)))))))
    (broadcastInDim S4x96x224x224 ![] bcast_S_S4x96x224x224 (constant S_ .f32 0x00000000#32))

/-- The whole reference: two layers and the residual. -/
def refOf (x : Vec F S4x96x224x224 .f32) (g : Vec F S4x96 .f32) (w1 : Vec F S96x96x3x3 .f32) (b1 : Vec F S96 .f32)
    (w2 : Vec F S96x96x3x3 .f32) (b2 : Vec F S96 .f32) : Vec F S4x96x224x224 .f32 :=
  addf (actOf (convOf (padOf (actOf (convOf (padOf x) w1) b1 g)) w2) b2 g) x

/-! ## The operations -/

set_option maxHeartbeats 4000000 in
/-- The operations of the padding of the images. -/
abbrev padIn : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x96x224x224, .f32⟩) main_arg0) (TRef.of (T := ⟨S_, .f32⟩) main_call0_v0) (TRef.of (T := ⟨S4x96x226x226, .f32⟩) main_v0) (fun x v => pad S4x96x226x226 ![0, 0, 1, 1] ![0, 0, 1, 1] ![0, 0, 0, 0] x v pads_S4x96x224x224_S4x96x226x226_000_000_110_110 h_S_) ]

/-- The buffers they write. -/
abbrev padInW : List (Ref sig .tc) :=
  [main_c, main_call0_v0, main_v0]

set_option maxRecDepth 8192 in
theorem padIn_keep (V : Valuation τ sig (Elt F)) (r : Ref sig .tc) (hr : r ∉ padInW) :
    after padIn V (Proc.devRef .tc r) = V (Proc.devRef .tc r) :=
  after_unwritten padInW rfl hr V

set_option maxRecDepth 8192 in
theorem padIn_sub : (padIn : List (HloOp τ sig (Elt F))).Forall fun op => op.bufs ⊆ tcRefs τ sig :=
  ⟨nullary_bufs_sub .., unary_bufs_sub .., binary_bufs_sub ..⟩

set_option maxHeartbeats 4000000 in
/-- The operations of the first convolution's zero start and nine taps. -/
abbrev conv1 : List (HloOp τ sig (Elt F)) :=
  [ nullary main_cst (constant S_ .f32 0x00000000#32),
    unary main_cst main_v1 (broadcastInDim S4x96x224x224 ![] bcast_S_S4x96x224x224 : (⟨S_, .f32⟩ : BufTy).Contents (Elt F) → (⟨S4x96x224x224, .f32⟩ : BufTy).Contents (Elt F)),
    unary main_arg2 main_v2 ((extractStridedSlice S96x96x1x1 ![0, 0, 0, 0] · slices_S96x96x3x3_S96x96x1x1_0_0_0_0) : (⟨S96x96x3x3, .f32⟩ : BufTy).Contents (Elt F) → (⟨S96x96x1x1, .f32⟩ : BufTy).Contents (Elt F)),
    reshape main_v2 main_v3 (rfl : (.f32 : EltTy) = .f32) shapeCasts_S96x96x1x1_S96x96,
    unary main_v0 main_v4 ((extractStridedSlice S4x96x224x224 ![0, 0, 0, 0] · slices_S4x96x226x226_S4x96x224x224_0_0_0_0) : (⟨S4x96x226x226, .f32⟩ : BufTy).Contents (Elt F) → (⟨S4x96x224x224, .f32⟩ : BufTy).Contents (Elt F)),
    binary main_v4 main_v3 main_v5 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v5 main_v6 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v1 main_v6 main_v7 (addf : (⟨S4x96x224x224, .f32⟩ : BufTy).Contents (Elt F) → (⟨S4x96x224x224, .f32⟩ : BufTy).Contents (Elt F) → (⟨S4x96x224x224, .f32⟩ : BufTy).Contents (Elt F)),
    unary main_arg2 main_v8 ((extractStridedSlice S96x96x1x1 ![0, 0, 0, 1] · slices_S96x96x3x3_S96x96x1x1_0_0_0_1) : (⟨S96x96x3x3, .f32⟩ : BufTy).Contents (Elt F) → (⟨S96x96x1x1, .f32⟩ : BufTy).Contents (Elt F)),
    reshape main_v8 main_v9 (rfl : (.f32 : EltTy) = .f32) shapeCasts_S96x96x1x1_S96x96,
    unary main_v0 main_v10 ((extractStridedSlice S4x96x224x224 ![0, 0, 0, 1] · slices_S4x96x226x226_S4x96x224x224_0_0_0_1) : (⟨S4x96x226x226, .f32⟩ : BufTy).Contents (Elt F) → (⟨S4x96x224x224, .f32⟩ : BufTy).Contents (Elt F)),
    binary main_v10 main_v9 main_v11 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v11 main_v12 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v7 main_v12 main_v13 (addf : (⟨S4x96x224x224, .f32⟩ : BufTy).Contents (Elt F) → (⟨S4x96x224x224, .f32⟩ : BufTy).Contents (Elt F) → (⟨S4x96x224x224, .f32⟩ : BufTy).Contents (Elt F)),
    unary main_arg2 main_v14 ((extractStridedSlice S96x96x1x1 ![0, 0, 0, 2] · slices_S96x96x3x3_S96x96x1x1_0_0_0_2) : (⟨S96x96x3x3, .f32⟩ : BufTy).Contents (Elt F) → (⟨S96x96x1x1, .f32⟩ : BufTy).Contents (Elt F)),
    reshape main_v14 main_v15 (rfl : (.f32 : EltTy) = .f32) shapeCasts_S96x96x1x1_S96x96,
    unary main_v0 main_v16 ((extractStridedSlice S4x96x224x224 ![0, 0, 0, 2] · slices_S4x96x226x226_S4x96x224x224_0_0_0_2) : (⟨S4x96x226x226, .f32⟩ : BufTy).Contents (Elt F) → (⟨S4x96x224x224, .f32⟩ : BufTy).Contents (Elt F)),
    binary main_v16 main_v15 main_v17 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v17 main_v18 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v13 main_v18 main_v19 (addf : (⟨S4x96x224x224, .f32⟩ : BufTy).Contents (Elt F) → (⟨S4x96x224x224, .f32⟩ : BufTy).Contents (Elt F) → (⟨S4x96x224x224, .f32⟩ : BufTy).Contents (Elt F)),
    unary main_arg2 main_v20 ((extractStridedSlice S96x96x1x1 ![0, 0, 1, 0] · slices_S96x96x3x3_S96x96x1x1_0_0_1_0) : (⟨S96x96x3x3, .f32⟩ : BufTy).Contents (Elt F) → (⟨S96x96x1x1, .f32⟩ : BufTy).Contents (Elt F)),
    reshape main_v20 main_v21 (rfl : (.f32 : EltTy) = .f32) shapeCasts_S96x96x1x1_S96x96,
    unary main_v0 main_v22 ((extractStridedSlice S4x96x224x224 ![0, 0, 1, 0] · slices_S4x96x226x226_S4x96x224x224_0_0_1_0) : (⟨S4x96x226x226, .f32⟩ : BufTy).Contents (Elt F) → (⟨S4x96x224x224, .f32⟩ : BufTy).Contents (Elt F)),
    binary main_v22 main_v21 main_v23 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v23 main_v24 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v19 main_v24 main_v25 (addf : (⟨S4x96x224x224, .f32⟩ : BufTy).Contents (Elt F) → (⟨S4x96x224x224, .f32⟩ : BufTy).Contents (Elt F) → (⟨S4x96x224x224, .f32⟩ : BufTy).Contents (Elt F)),
    unary main_arg2 main_v26 ((extractStridedSlice S96x96x1x1 ![0, 0, 1, 1] · slices_S96x96x3x3_S96x96x1x1_0_0_1_1) : (⟨S96x96x3x3, .f32⟩ : BufTy).Contents (Elt F) → (⟨S96x96x1x1, .f32⟩ : BufTy).Contents (Elt F)),
    reshape main_v26 main_v27 (rfl : (.f32 : EltTy) = .f32) shapeCasts_S96x96x1x1_S96x96,
    unary main_v0 main_v28 ((extractStridedSlice S4x96x224x224 ![0, 0, 1, 1] · slices_S4x96x226x226_S4x96x224x224_0_0_1_1) : (⟨S4x96x226x226, .f32⟩ : BufTy).Contents (Elt F) → (⟨S4x96x224x224, .f32⟩ : BufTy).Contents (Elt F)),
    binary main_v28 main_v27 main_v29 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v29 main_v30 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v25 main_v30 main_v31 (addf : (⟨S4x96x224x224, .f32⟩ : BufTy).Contents (Elt F) → (⟨S4x96x224x224, .f32⟩ : BufTy).Contents (Elt F) → (⟨S4x96x224x224, .f32⟩ : BufTy).Contents (Elt F)),
    unary main_arg2 main_v32 ((extractStridedSlice S96x96x1x1 ![0, 0, 1, 2] · slices_S96x96x3x3_S96x96x1x1_0_0_1_2) : (⟨S96x96x3x3, .f32⟩ : BufTy).Contents (Elt F) → (⟨S96x96x1x1, .f32⟩ : BufTy).Contents (Elt F)),
    reshape main_v32 main_v33 (rfl : (.f32 : EltTy) = .f32) shapeCasts_S96x96x1x1_S96x96,
    unary main_v0 main_v34 ((extractStridedSlice S4x96x224x224 ![0, 0, 1, 2] · slices_S4x96x226x226_S4x96x224x224_0_0_1_2) : (⟨S4x96x226x226, .f32⟩ : BufTy).Contents (Elt F) → (⟨S4x96x224x224, .f32⟩ : BufTy).Contents (Elt F)),
    binary main_v34 main_v33 main_v35 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v35 main_v36 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v31 main_v36 main_v37 (addf : (⟨S4x96x224x224, .f32⟩ : BufTy).Contents (Elt F) → (⟨S4x96x224x224, .f32⟩ : BufTy).Contents (Elt F) → (⟨S4x96x224x224, .f32⟩ : BufTy).Contents (Elt F)),
    unary main_arg2 main_v38 ((extractStridedSlice S96x96x1x1 ![0, 0, 2, 0] · slices_S96x96x3x3_S96x96x1x1_0_0_2_0) : (⟨S96x96x3x3, .f32⟩ : BufTy).Contents (Elt F) → (⟨S96x96x1x1, .f32⟩ : BufTy).Contents (Elt F)),
    reshape main_v38 main_v39 (rfl : (.f32 : EltTy) = .f32) shapeCasts_S96x96x1x1_S96x96,
    unary main_v0 main_v40 ((extractStridedSlice S4x96x224x224 ![0, 0, 2, 0] · slices_S4x96x226x226_S4x96x224x224_0_0_2_0) : (⟨S4x96x226x226, .f32⟩ : BufTy).Contents (Elt F) → (⟨S4x96x224x224, .f32⟩ : BufTy).Contents (Elt F)),
    binary main_v40 main_v39 main_v41 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v41 main_v42 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v37 main_v42 main_v43 (addf : (⟨S4x96x224x224, .f32⟩ : BufTy).Contents (Elt F) → (⟨S4x96x224x224, .f32⟩ : BufTy).Contents (Elt F) → (⟨S4x96x224x224, .f32⟩ : BufTy).Contents (Elt F)),
    unary main_arg2 main_v44 ((extractStridedSlice S96x96x1x1 ![0, 0, 2, 1] · slices_S96x96x3x3_S96x96x1x1_0_0_2_1) : (⟨S96x96x3x3, .f32⟩ : BufTy).Contents (Elt F) → (⟨S96x96x1x1, .f32⟩ : BufTy).Contents (Elt F)),
    reshape main_v44 main_v45 (rfl : (.f32 : EltTy) = .f32) shapeCasts_S96x96x1x1_S96x96,
    unary main_v0 main_v46 ((extractStridedSlice S4x96x224x224 ![0, 0, 2, 1] · slices_S4x96x226x226_S4x96x224x224_0_0_2_1) : (⟨S4x96x226x226, .f32⟩ : BufTy).Contents (Elt F) → (⟨S4x96x224x224, .f32⟩ : BufTy).Contents (Elt F)),
    binary main_v46 main_v45 main_v47 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v47 main_v48 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v43 main_v48 main_v49 (addf : (⟨S4x96x224x224, .f32⟩ : BufTy).Contents (Elt F) → (⟨S4x96x224x224, .f32⟩ : BufTy).Contents (Elt F) → (⟨S4x96x224x224, .f32⟩ : BufTy).Contents (Elt F)),
    unary main_arg2 main_v50 ((extractStridedSlice S96x96x1x1 ![0, 0, 2, 2] · slices_S96x96x3x3_S96x96x1x1_0_0_2_2) : (⟨S96x96x3x3, .f32⟩ : BufTy).Contents (Elt F) → (⟨S96x96x1x1, .f32⟩ : BufTy).Contents (Elt F)),
    reshape main_v50 main_v51 (rfl : (.f32 : EltTy) = .f32) shapeCasts_S96x96x1x1_S96x96,
    unary main_v0 main_v52 ((extractStridedSlice S4x96x224x224 ![0, 0, 2, 2] · slices_S4x96x226x226_S4x96x224x224_0_0_2_2) : (⟨S4x96x226x226, .f32⟩ : BufTy).Contents (Elt F) → (⟨S4x96x224x224, .f32⟩ : BufTy).Contents (Elt F)),
    binary main_v52 main_v51 main_v53 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v53 main_v54 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v49 main_v54 main_v55 (addf : (⟨S4x96x224x224, .f32⟩ : BufTy).Contents (Elt F) → (⟨S4x96x224x224, .f32⟩ : BufTy).Contents (Elt F) → (⟨S4x96x224x224, .f32⟩ : BufTy).Contents (Elt F)) ]

/-- The buffers they write. -/
abbrev conv1W : List (Ref sig .tc) :=
  [main_cst, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55]

set_option maxRecDepth 8192 in
theorem conv1_keep (V : Valuation τ sig (Elt F)) (r : Ref sig .tc) (hr : r ∉ conv1W) :
    after conv1 V (Proc.devRef .tc r) = V (Proc.devRef .tc r) :=
  after_unwritten conv1W rfl hr V

set_option maxRecDepth 8192 in
theorem conv1_sub : (conv1 : List (HloOp τ sig (Elt F))).Forall fun op => op.bufs ⊆ tcRefs τ sig :=
  ⟨nullary_bufs_sub .., unary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub ..⟩

set_option maxHeartbeats 4000000 in
/-- The operations of the first layer's bias, gate, channel mask and relu. -/
abbrev act1 : List (HloOp τ sig (Elt F)) :=
  [ unary main_arg3 main_v56 (broadcastInDim S1x96x1x1 ![1] bcast_S96_S1x96x1x1_1 : (⟨S96, .f32⟩ : BufTy).Contents (Elt F) → (⟨S1x96x1x1, .f32⟩ : BufTy).Contents (Elt F)),
    unary main_v56 main_v57 (broadcastInDim S4x96x224x224 ![0, 1, 2, 3] bcast_S1x96x1x1_S4x96x224x224_0_1_2_3 : (⟨S1x96x1x1, .f32⟩ : BufTy).Contents (Elt F) → (⟨S4x96x224x224, .f32⟩ : BufTy).Contents (Elt F)),
    binary main_v55 main_v57 main_v58 (addf : (⟨S4x96x224x224, .f32⟩ : BufTy).Contents (Elt F) → (⟨S4x96x224x224, .f32⟩ : BufTy).Contents (Elt F) → (⟨S4x96x224x224, .f32⟩ : BufTy).Contents (Elt F)),
    nullary main_cst_0 (constant S_ .f32 0x00000000#32),
    unary main_cst_0 main_v59 (broadcastInDim S4x96 ![] bcast_S_S4x96 : (⟨S_, .f32⟩ : BufTy).Contents (Elt F) → (⟨S4x96, .f32⟩ : BufTy).Contents (Elt F)),
    binary main_arg1 main_v59 main_v60 (cmpf .ogt : (⟨S4x96, .f32⟩ : BufTy).Contents (Elt F) → (⟨S4x96, .f32⟩ : BufTy).Contents (Elt F) → (⟨S4x96, .i1⟩ : BufTy).Contents (Elt F)),
    nullary main_cst_1 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S4x96, .f32⟩) main_call1_v1) (broadcastInDim S4x96 ![] bcast_S_S4x96),
    TRef.ternary (TRef.of (T := ⟨S4x96, .i1⟩) main_v60) (TRef.of (T := ⟨S4x96, .f32⟩) main_arg1) (TRef.of (T := ⟨S4x96, .f32⟩) main_call1_v1) (TRef.of (T := ⟨S4x96, .f32⟩) main_v61) select,
    unary main_v61 main_v62 (broadcastInDim S4x96x1x1 ![0, 1] bcast_S4x96_S4x96x1x1_0_1 : (⟨S4x96, .f32⟩ : BufTy).Contents (Elt F) → (⟨S4x96x1x1, .f32⟩ : BufTy).Contents (Elt F)),
    unary main_v62 main_v63 (broadcastInDim S4x96x224x224 ![0, 1, 2, 3] bcast_S4x96x1x1_S4x96x224x224_0_1_2_3 : (⟨S4x96x1x1, .f32⟩ : BufTy).Contents (Elt F) → (⟨S4x96x224x224, .f32⟩ : BufTy).Contents (Elt F)),
    binary main_v63 main_v58 main_v64 (mulf : (⟨S4x96x224x224, .f32⟩ : BufTy).Contents (Elt F) → (⟨S4x96x224x224, .f32⟩ : BufTy).Contents (Elt F) → (⟨S4x96x224x224, .f32⟩ : BufTy).Contents (Elt F)),
    nullary main_cst_2 (constant S_ .f32 0x00000000#32),
    binary main_arg1 main_cst_2 main_v65 ((fun x v => Host.reduceAdd x v reducesTo_S4x96_S96_d0 h_S_) : (⟨S4x96, .f32⟩ : BufTy).Contents (Elt F) → (⟨S_, .f32⟩ : BufTy).Contents (Elt F) → (⟨S96, .f32⟩ : BufTy).Contents (Elt F)),
    nullary main_cst_3 (constant S_ .f32 0x00000000#32),
    unary main_cst_3 main_v66 (broadcastInDim S96 ![] bcast_S_S96 : (⟨S_, .f32⟩ : BufTy).Contents (Elt F) → (⟨S96, .f32⟩ : BufTy).Contents (Elt F)),
    binary main_v65 main_v66 main_v67 (cmpf .ogt : (⟨S96, .f32⟩ : BufTy).Contents (Elt F) → (⟨S96, .f32⟩ : BufTy).Contents (Elt F) → (⟨S96, .i1⟩ : BufTy).Contents (Elt F)),
    unary main_v67 main_v68 (uitofp .f32 : (⟨S96, .i1⟩ : BufTy).Contents (Elt F) → (⟨S96, .f32⟩ : BufTy).Contents (Elt F)),
    unary main_v68 main_v69 (broadcastInDim S1x96x1x1 ![1] bcast_S96_S1x96x1x1_1 : (⟨S96, .f32⟩ : BufTy).Contents (Elt F) → (⟨S1x96x1x1, .f32⟩ : BufTy).Contents (Elt F)),
    unary main_v69 main_v70 (broadcastInDim S4x96x224x224 ![0, 1, 2, 3] bcast_S1x96x1x1_S4x96x224x224_0_1_2_3 : (⟨S1x96x1x1, .f32⟩ : BufTy).Contents (Elt F) → (⟨S4x96x224x224, .f32⟩ : BufTy).Contents (Elt F)),
    binary main_v64 main_v70 main_v71 (mulf : (⟨S4x96x224x224, .f32⟩ : BufTy).Contents (Elt F) → (⟨S4x96x224x224, .f32⟩ : BufTy).Contents (Elt F) → (⟨S4x96x224x224, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4x96x224x224, .f32⟩) main_call2_v0) (broadcastInDim S4x96x224x224 ![] bcast_S_S4x96x224x224),
    TRef.binary (TRef.of (T := ⟨S4x96x224x224, .f32⟩) main_v71) (TRef.of (T := ⟨S4x96x224x224, .f32⟩) main_call2_v0) (TRef.of (T := ⟨S4x96x224x224, .f32⟩) main_v72) maximumf ]

/-- The buffers they write. -/
abbrev act1W : List (Ref sig .tc) :=
  [main_v56, main_v57, main_v58, main_cst_0, main_v59, main_v60, main_cst_1, main_call1_v0, main_call1_v1, main_v61, main_v62, main_v63, main_v64, main_cst_2, main_v65, main_cst_3, main_v66, main_v67, main_v68, main_v69, main_v70, main_v71, main_call2_cst, main_call2_v0, main_v72]

set_option maxRecDepth 8192 in
theorem act1_keep (V : Valuation τ sig (Elt F)) (r : Ref sig .tc) (hr : r ∉ act1W) :
    after act1 V (Proc.devRef .tc r) = V (Proc.devRef .tc r) :=
  after_unwritten act1W rfl hr V

set_option maxRecDepth 8192 in
theorem act1_sub : (act1 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub ..⟩

set_option maxHeartbeats 4000000 in
/-- The operations of the padding of the hidden images. -/
abbrev padMid : List (HloOp τ sig (Elt F)) :=
  [ nullary main_c_4 (constantI S_ 32 0#32),
    TRef.unary (TRef.of (T := ⟨S_, .i32⟩) main_c_4) (TRef.of (T := ⟨S_, .f32⟩) main_call3_v0) (sitofp .f32),
    TRef.binary (TRef.of (T := ⟨S4x96x224x224, .f32⟩) main_v72) (TRef.of (T := ⟨S_, .f32⟩) main_call3_v0) (TRef.of (T := ⟨S4x96x226x226, .f32⟩) main_v73) (fun x v => pad S4x96x226x226 ![0, 0, 1, 1] ![0, 0, 1, 1] ![0, 0, 0, 0] x v pads_S4x96x224x224_S4x96x226x226_000_000_110_110 h_S_) ]

/-- The buffers they write. -/
abbrev padMidW : List (Ref sig .tc) :=
  [main_c_4, main_call3_v0, main_v73]

set_option maxRecDepth 8192 in
theorem padMid_keep (V : Valuation τ sig (Elt F)) (r : Ref sig .tc) (hr : r ∉ padMidW) :
    after padMid V (Proc.devRef .tc r) = V (Proc.devRef .tc r) :=
  after_unwritten padMidW rfl hr V

set_option maxRecDepth 8192 in
theorem padMid_sub : (padMid : List (HloOp τ sig (Elt F))).Forall fun op => op.bufs ⊆ tcRefs τ sig :=
  ⟨nullary_bufs_sub .., unary_bufs_sub .., binary_bufs_sub ..⟩

set_option maxHeartbeats 4000000 in
/-- The operations of the second convolution's zero start and nine taps. -/
abbrev conv2 : List (HloOp τ sig (Elt F)) :=
  [ nullary main_cst_5 (constant S_ .f32 0x00000000#32),
    unary main_cst_5 main_v74 (broadcastInDim S4x96x224x224 ![] bcast_S_S4x96x224x224 : (⟨S_, .f32⟩ : BufTy).Contents (Elt F) → (⟨S4x96x224x224, .f32⟩ : BufTy).Contents (Elt F)),
    unary main_arg4 main_v75 ((extractStridedSlice S96x96x1x1 ![0, 0, 0, 0] · slices_S96x96x3x3_S96x96x1x1_0_0_0_0) : (⟨S96x96x3x3, .f32⟩ : BufTy).Contents (Elt F) → (⟨S96x96x1x1, .f32⟩ : BufTy).Contents (Elt F)),
    reshape main_v75 main_v76 (rfl : (.f32 : EltTy) = .f32) shapeCasts_S96x96x1x1_S96x96,
    unary main_v73 main_v77 ((extractStridedSlice S4x96x224x224 ![0, 0, 0, 0] · slices_S4x96x226x226_S4x96x224x224_0_0_0_0) : (⟨S4x96x226x226, .f32⟩ : BufTy).Contents (Elt F) → (⟨S4x96x224x224, .f32⟩ : BufTy).Contents (Elt F)),
    binary main_v77 main_v76 main_v78 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v78 main_v79 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v74 main_v79 main_v80 (addf : (⟨S4x96x224x224, .f32⟩ : BufTy).Contents (Elt F) → (⟨S4x96x224x224, .f32⟩ : BufTy).Contents (Elt F) → (⟨S4x96x224x224, .f32⟩ : BufTy).Contents (Elt F)),
    unary main_arg4 main_v81 ((extractStridedSlice S96x96x1x1 ![0, 0, 0, 1] · slices_S96x96x3x3_S96x96x1x1_0_0_0_1) : (⟨S96x96x3x3, .f32⟩ : BufTy).Contents (Elt F) → (⟨S96x96x1x1, .f32⟩ : BufTy).Contents (Elt F)),
    reshape main_v81 main_v82 (rfl : (.f32 : EltTy) = .f32) shapeCasts_S96x96x1x1_S96x96,
    unary main_v73 main_v83 ((extractStridedSlice S4x96x224x224 ![0, 0, 0, 1] · slices_S4x96x226x226_S4x96x224x224_0_0_0_1) : (⟨S4x96x226x226, .f32⟩ : BufTy).Contents (Elt F) → (⟨S4x96x224x224, .f32⟩ : BufTy).Contents (Elt F)),
    binary main_v83 main_v82 main_v84 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v84 main_v85 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v80 main_v85 main_v86 (addf : (⟨S4x96x224x224, .f32⟩ : BufTy).Contents (Elt F) → (⟨S4x96x224x224, .f32⟩ : BufTy).Contents (Elt F) → (⟨S4x96x224x224, .f32⟩ : BufTy).Contents (Elt F)),
    unary main_arg4 main_v87 ((extractStridedSlice S96x96x1x1 ![0, 0, 0, 2] · slices_S96x96x3x3_S96x96x1x1_0_0_0_2) : (⟨S96x96x3x3, .f32⟩ : BufTy).Contents (Elt F) → (⟨S96x96x1x1, .f32⟩ : BufTy).Contents (Elt F)),
    reshape main_v87 main_v88 (rfl : (.f32 : EltTy) = .f32) shapeCasts_S96x96x1x1_S96x96,
    unary main_v73 main_v89 ((extractStridedSlice S4x96x224x224 ![0, 0, 0, 2] · slices_S4x96x226x226_S4x96x224x224_0_0_0_2) : (⟨S4x96x226x226, .f32⟩ : BufTy).Contents (Elt F) → (⟨S4x96x224x224, .f32⟩ : BufTy).Contents (Elt F)),
    binary main_v89 main_v88 main_v90 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v90 main_v91 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v86 main_v91 main_v92 (addf : (⟨S4x96x224x224, .f32⟩ : BufTy).Contents (Elt F) → (⟨S4x96x224x224, .f32⟩ : BufTy).Contents (Elt F) → (⟨S4x96x224x224, .f32⟩ : BufTy).Contents (Elt F)),
    unary main_arg4 main_v93 ((extractStridedSlice S96x96x1x1 ![0, 0, 1, 0] · slices_S96x96x3x3_S96x96x1x1_0_0_1_0) : (⟨S96x96x3x3, .f32⟩ : BufTy).Contents (Elt F) → (⟨S96x96x1x1, .f32⟩ : BufTy).Contents (Elt F)),
    reshape main_v93 main_v94 (rfl : (.f32 : EltTy) = .f32) shapeCasts_S96x96x1x1_S96x96,
    unary main_v73 main_v95 ((extractStridedSlice S4x96x224x224 ![0, 0, 1, 0] · slices_S4x96x226x226_S4x96x224x224_0_0_1_0) : (⟨S4x96x226x226, .f32⟩ : BufTy).Contents (Elt F) → (⟨S4x96x224x224, .f32⟩ : BufTy).Contents (Elt F)),
    binary main_v95 main_v94 main_v96 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v96 main_v97 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v92 main_v97 main_v98 (addf : (⟨S4x96x224x224, .f32⟩ : BufTy).Contents (Elt F) → (⟨S4x96x224x224, .f32⟩ : BufTy).Contents (Elt F) → (⟨S4x96x224x224, .f32⟩ : BufTy).Contents (Elt F)),
    unary main_arg4 main_v99 ((extractStridedSlice S96x96x1x1 ![0, 0, 1, 1] · slices_S96x96x3x3_S96x96x1x1_0_0_1_1) : (⟨S96x96x3x3, .f32⟩ : BufTy).Contents (Elt F) → (⟨S96x96x1x1, .f32⟩ : BufTy).Contents (Elt F)),
    reshape main_v99 main_v100 (rfl : (.f32 : EltTy) = .f32) shapeCasts_S96x96x1x1_S96x96,
    unary main_v73 main_v101 ((extractStridedSlice S4x96x224x224 ![0, 0, 1, 1] · slices_S4x96x226x226_S4x96x224x224_0_0_1_1) : (⟨S4x96x226x226, .f32⟩ : BufTy).Contents (Elt F) → (⟨S4x96x224x224, .f32⟩ : BufTy).Contents (Elt F)),
    binary main_v101 main_v100 main_v102 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v102 main_v103 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v98 main_v103 main_v104 (addf : (⟨S4x96x224x224, .f32⟩ : BufTy).Contents (Elt F) → (⟨S4x96x224x224, .f32⟩ : BufTy).Contents (Elt F) → (⟨S4x96x224x224, .f32⟩ : BufTy).Contents (Elt F)),
    unary main_arg4 main_v105 ((extractStridedSlice S96x96x1x1 ![0, 0, 1, 2] · slices_S96x96x3x3_S96x96x1x1_0_0_1_2) : (⟨S96x96x3x3, .f32⟩ : BufTy).Contents (Elt F) → (⟨S96x96x1x1, .f32⟩ : BufTy).Contents (Elt F)),
    reshape main_v105 main_v106 (rfl : (.f32 : EltTy) = .f32) shapeCasts_S96x96x1x1_S96x96,
    unary main_v73 main_v107 ((extractStridedSlice S4x96x224x224 ![0, 0, 1, 2] · slices_S4x96x226x226_S4x96x224x224_0_0_1_2) : (⟨S4x96x226x226, .f32⟩ : BufTy).Contents (Elt F) → (⟨S4x96x224x224, .f32⟩ : BufTy).Contents (Elt F)),
    binary main_v107 main_v106 main_v108 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v108 main_v109 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v104 main_v109 main_v110 (addf : (⟨S4x96x224x224, .f32⟩ : BufTy).Contents (Elt F) → (⟨S4x96x224x224, .f32⟩ : BufTy).Contents (Elt F) → (⟨S4x96x224x224, .f32⟩ : BufTy).Contents (Elt F)),
    unary main_arg4 main_v111 ((extractStridedSlice S96x96x1x1 ![0, 0, 2, 0] · slices_S96x96x3x3_S96x96x1x1_0_0_2_0) : (⟨S96x96x3x3, .f32⟩ : BufTy).Contents (Elt F) → (⟨S96x96x1x1, .f32⟩ : BufTy).Contents (Elt F)),
    reshape main_v111 main_v112 (rfl : (.f32 : EltTy) = .f32) shapeCasts_S96x96x1x1_S96x96,
    unary main_v73 main_v113 ((extractStridedSlice S4x96x224x224 ![0, 0, 2, 0] · slices_S4x96x226x226_S4x96x224x224_0_0_2_0) : (⟨S4x96x226x226, .f32⟩ : BufTy).Contents (Elt F) → (⟨S4x96x224x224, .f32⟩ : BufTy).Contents (Elt F)),
    binary main_v113 main_v112 main_v114 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v114 main_v115 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v110 main_v115 main_v116 (addf : (⟨S4x96x224x224, .f32⟩ : BufTy).Contents (Elt F) → (⟨S4x96x224x224, .f32⟩ : BufTy).Contents (Elt F) → (⟨S4x96x224x224, .f32⟩ : BufTy).Contents (Elt F)),
    unary main_arg4 main_v117 ((extractStridedSlice S96x96x1x1 ![0, 0, 2, 1] · slices_S96x96x3x3_S96x96x1x1_0_0_2_1) : (⟨S96x96x3x3, .f32⟩ : BufTy).Contents (Elt F) → (⟨S96x96x1x1, .f32⟩ : BufTy).Contents (Elt F)),
    reshape main_v117 main_v118 (rfl : (.f32 : EltTy) = .f32) shapeCasts_S96x96x1x1_S96x96,
    unary main_v73 main_v119 ((extractStridedSlice S4x96x224x224 ![0, 0, 2, 1] · slices_S4x96x226x226_S4x96x224x224_0_0_2_1) : (⟨S4x96x226x226, .f32⟩ : BufTy).Contents (Elt F) → (⟨S4x96x224x224, .f32⟩ : BufTy).Contents (Elt F)),
    binary main_v119 main_v118 main_v120 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v120 main_v121 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v116 main_v121 main_v122 (addf : (⟨S4x96x224x224, .f32⟩ : BufTy).Contents (Elt F) → (⟨S4x96x224x224, .f32⟩ : BufTy).Contents (Elt F) → (⟨S4x96x224x224, .f32⟩ : BufTy).Contents (Elt F)),
    unary main_arg4 main_v123 ((extractStridedSlice S96x96x1x1 ![0, 0, 2, 2] · slices_S96x96x3x3_S96x96x1x1_0_0_2_2) : (⟨S96x96x3x3, .f32⟩ : BufTy).Contents (Elt F) → (⟨S96x96x1x1, .f32⟩ : BufTy).Contents (Elt F)),
    reshape main_v123 main_v124 (rfl : (.f32 : EltTy) = .f32) shapeCasts_S96x96x1x1_S96x96,
    unary main_v73 main_v125 ((extractStridedSlice S4x96x224x224 ![0, 0, 2, 2] · slices_S4x96x226x226_S4x96x224x224_0_0_2_2) : (⟨S4x96x226x226, .f32⟩ : BufTy).Contents (Elt F) → (⟨S4x96x224x224, .f32⟩ : BufTy).Contents (Elt F)),
    binary main_v125 main_v124 main_v126 ((fun l r => Host.dotGeneral dot_S4x96x224x224_S96x96_S4x224x224x96_1_1_023_0_n_n none l r) : (⟨S4x96x224x224, .f32⟩ : BufTy).Contents (Elt F) → (⟨S96x96, .f32⟩ : BufTy).Contents (Elt F) → (⟨S4x224x224x96, .f32⟩ : BufTy).Contents (Elt F)),
    unary main_v126 main_v127 ((transpose S4x96x224x224 [0, 3, 1, 2] · transposes_S4x224x224x96_S4x96x224x224_0_3_1_2) : (⟨S4x224x224x96, .f32⟩ : BufTy).Contents (Elt F) → (⟨S4x96x224x224, .f32⟩ : BufTy).Contents (Elt F)),
    binary main_v122 main_v127 main_v128 (addf : (⟨S4x96x224x224, .f32⟩ : BufTy).Contents (Elt F) → (⟨S4x96x224x224, .f32⟩ : BufTy).Contents (Elt F) → (⟨S4x96x224x224, .f32⟩ : BufTy).Contents (Elt F)) ]

/-- The buffers they write. -/
abbrev conv2W : List (Ref sig .tc) :=
  [main_cst_5, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128]

set_option maxRecDepth 8192 in
theorem conv2_keep (V : Valuation τ sig (Elt F)) (r : Ref sig .tc) (hr : r ∉ conv2W) :
    after conv2 V (Proc.devRef .tc r) = V (Proc.devRef .tc r) :=
  after_unwritten conv2W rfl hr V

set_option maxRecDepth 8192 in
theorem conv2_sub : (conv2 : List (HloOp τ sig (Elt F))).Forall fun op => op.bufs ⊆ tcRefs τ sig :=
  ⟨nullary_bufs_sub .., unary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub ..⟩

set_option maxHeartbeats 4000000 in
/-- The operations of the second layer's bias, gate, channel mask and relu, and the residual. -/
abbrev act2 : List (HloOp τ sig (Elt F)) :=
  [ unary main_arg5 main_v129 (broadcastInDim S1x96x1x1 ![1] bcast_S96_S1x96x1x1_1 : (⟨S96, .f32⟩ : BufTy).Contents (Elt F) → (⟨S1x96x1x1, .f32⟩ : BufTy).Contents (Elt F)),
    unary main_v129 main_v130 (broadcastInDim S4x96x224x224 ![0, 1, 2, 3] bcast_S1x96x1x1_S4x96x224x224_0_1_2_3 : (⟨S1x96x1x1, .f32⟩ : BufTy).Contents (Elt F) → (⟨S4x96x224x224, .f32⟩ : BufTy).Contents (Elt F)),
    binary main_v128 main_v130 main_v131 (addf : (⟨S4x96x224x224, .f32⟩ : BufTy).Contents (Elt F) → (⟨S4x96x224x224, .f32⟩ : BufTy).Contents (Elt F) → (⟨S4x96x224x224, .f32⟩ : BufTy).Contents (Elt F)),
    nullary main_cst_6 (constant S_ .f32 0x00000000#32),
    unary main_cst_6 main_v132 (broadcastInDim S4x96 ![] bcast_S_S4x96 : (⟨S_, .f32⟩ : BufTy).Contents (Elt F) → (⟨S4x96, .f32⟩ : BufTy).Contents (Elt F)),
    binary main_arg1 main_v132 main_v133 (cmpf .ogt : (⟨S4x96, .f32⟩ : BufTy).Contents (Elt F) → (⟨S4x96, .f32⟩ : BufTy).Contents (Elt F) → (⟨S4x96, .i1⟩ : BufTy).Contents (Elt F)),
    nullary main_cst_7 (constant S_ .f32 0x00000000#32),
    TRef.unary (TRef.of (T := ⟨S_, .f32⟩) main_cst_7) (TRef.of (T := ⟨S_, .f32⟩) main_call4_v0) id,
    TRef.unary (TRef.of (T := ⟨S_, .f32⟩) main_call4_v0) (TRef.of (T := ⟨S4x96, .f32⟩) main_call4_v1) (broadcastInDim S4x96 ![] bcast_S_S4x96),
    TRef.ternary (TRef.of (T := ⟨S4x96, .i1⟩) main_v133) (TRef.of (T := ⟨S4x96, .f32⟩) main_arg1) (TRef.of (T := ⟨S4x96, .f32⟩) main_call4_v1) (TRef.of (T := ⟨S4x96, .f32⟩) main_v134) select,
    unary main_v134 main_v135 (broadcastInDim S4x96x1x1 ![0, 1] bcast_S4x96_S4x96x1x1_0_1 : (⟨S4x96, .f32⟩ : BufTy).Contents (Elt F) → (⟨S4x96x1x1, .f32⟩ : BufTy).Contents (Elt F)),
    unary main_v135 main_v136 (broadcastInDim S4x96x224x224 ![0, 1, 2, 3] bcast_S4x96x1x1_S4x96x224x224_0_1_2_3 : (⟨S4x96x1x1, .f32⟩ : BufTy).Contents (Elt F) → (⟨S4x96x224x224, .f32⟩ : BufTy).Contents (Elt F)),
    binary main_v136 main_v131 main_v137 (mulf : (⟨S4x96x224x224, .f32⟩ : BufTy).Contents (Elt F) → (⟨S4x96x224x224, .f32⟩ : BufTy).Contents (Elt F) → (⟨S4x96x224x224, .f32⟩ : BufTy).Contents (Elt F)),
    nullary main_cst_8 (constant S_ .f32 0x00000000#32),
    binary main_arg1 main_cst_8 main_v138 ((fun x v => Host.reduceAdd x v reducesTo_S4x96_S96_d0 h_S_) : (⟨S4x96, .f32⟩ : BufTy).Contents (Elt F) → (⟨S_, .f32⟩ : BufTy).Contents (Elt F) → (⟨S96, .f32⟩ : BufTy).Contents (Elt F)),
    nullary main_cst_9 (constant S_ .f32 0x00000000#32),
    unary main_cst_9 main_v139 (broadcastInDim S96 ![] bcast_S_S96 : (⟨S_, .f32⟩ : BufTy).Contents (Elt F) → (⟨S96, .f32⟩ : BufTy).Contents (Elt F)),
    binary main_v138 main_v139 main_v140 (cmpf .ogt : (⟨S96, .f32⟩ : BufTy).Contents (Elt F) → (⟨S96, .f32⟩ : BufTy).Contents (Elt F) → (⟨S96, .i1⟩ : BufTy).Contents (Elt F)),
    unary main_v140 main_v141 (uitofp .f32 : (⟨S96, .i1⟩ : BufTy).Contents (Elt F) → (⟨S96, .f32⟩ : BufTy).Contents (Elt F)),
    unary main_v141 main_v142 (broadcastInDim S1x96x1x1 ![1] bcast_S96_S1x96x1x1_1 : (⟨S96, .f32⟩ : BufTy).Contents (Elt F) → (⟨S1x96x1x1, .f32⟩ : BufTy).Contents (Elt F)),
    unary main_v142 main_v143 (broadcastInDim S4x96x224x224 ![0, 1, 2, 3] bcast_S1x96x1x1_S4x96x224x224_0_1_2_3 : (⟨S1x96x1x1, .f32⟩ : BufTy).Contents (Elt F) → (⟨S4x96x224x224, .f32⟩ : BufTy).Contents (Elt F)),
    binary main_v137 main_v143 main_v144 (mulf : (⟨S4x96x224x224, .f32⟩ : BufTy).Contents (Elt F) → (⟨S4x96x224x224, .f32⟩ : BufTy).Contents (Elt F) → (⟨S4x96x224x224, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4x96x224x224, .f32⟩) main_call5_v0) (broadcastInDim S4x96x224x224 ![] bcast_S_S4x96x224x224),
    TRef.binary (TRef.of (T := ⟨S4x96x224x224, .f32⟩) main_v144) (TRef.of (T := ⟨S4x96x224x224, .f32⟩) main_call5_v0) (TRef.of (T := ⟨S4x96x224x224, .f32⟩) main_v145) maximumf,
    binary main_v145 main_arg0 main_v146 (addf : (⟨S4x96x224x224, .f32⟩ : BufTy).Contents (Elt F) → (⟨S4x96x224x224, .f32⟩ : BufTy).Contents (Elt F) → (⟨S4x96x224x224, .f32⟩ : BufTy).Contents (Elt F)) ]

/-- The buffers they write. -/
abbrev act2W : List (Ref sig .tc) :=
  [main_v129, main_v130, main_v131, main_cst_6, main_v132, main_v133, main_cst_7, main_call4_v0, main_call4_v1, main_v134, main_v135, main_v136, main_v137, main_cst_8, main_v138, main_cst_9, main_v139, main_v140, main_v141, main_v142, main_v143, main_v144, main_call5_cst, main_call5_v0, main_v145, main_v146]

set_option maxRecDepth 8192 in
theorem act2_keep (V : Valuation τ sig (Elt F)) (r : Ref sig .tc) (hr : r ∉ act2W) :
    after act2 V (Proc.devRef .tc r) = V (Proc.devRef .tc r) :=
  after_unwritten act2W rfl hr V

set_option maxRecDepth 8192 in
theorem act2_sub : (act2 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., binary_bufs_sub ..⟩

/-! ## What each stretch leaves -/

set_option maxRecDepth 8192 in
set_option maxHeartbeats 8000000 in
theorem padIn_out (V : Valuation τ sig (Elt F)) :
    after padIn V (Proc.devRef .tc main_v0) = padOf (V (Proc.devRef .tc main_arg0)) := by
  simp only [padIn, TRef.binary, TRef.nullary, TRef.ternary, TRef.unary, TRef.toBuf, TRef.ofBuf, cast_eq]
  after_results_simp <;> rfl

set_option maxRecDepth 8192 in
set_option maxHeartbeats 8000000 in
theorem conv1_out (V : Valuation τ sig (Elt F)) :
    after conv1 V (Proc.devRef .tc main_v55) = convOf (V (Proc.devRef .tc main_v0)) (V (Proc.devRef .tc main_arg2)) := by
  simp only [conv1, TRef.binary, TRef.nullary, TRef.ternary, TRef.unary, TRef.toBuf, TRef.ofBuf, cast_eq]
  after_results_simp <;> rfl

set_option maxRecDepth 8192 in
set_option maxHeartbeats 8000000 in
theorem act1_out (V : Valuation τ sig (Elt F)) :
    after act1 V (Proc.devRef .tc main_v72) = actOf (V (Proc.devRef .tc main_v55)) (V (Proc.devRef .tc main_arg3)) (V (Proc.devRef .tc main_arg1)) := by
  simp only [act1, TRef.binary, TRef.nullary, TRef.ternary, TRef.unary, TRef.toBuf, TRef.ofBuf, cast_eq]
  after_results_simp <;> rfl

set_option maxRecDepth 8192 in
set_option maxHeartbeats 8000000 in
theorem padMid_out (V : Valuation τ sig (Elt F)) :
    after padMid V (Proc.devRef .tc main_v73) = padOf (V (Proc.devRef .tc main_v72)) := by
  simp only [padMid, TRef.binary, TRef.nullary, TRef.ternary, TRef.unary, TRef.toBuf, TRef.ofBuf, cast_eq]
  after_results_simp <;> rfl

set_option maxRecDepth 8192 in
set_option maxHeartbeats 8000000 in
theorem conv2_out (V : Valuation τ sig (Elt F)) :
    after conv2 V (Proc.devRef .tc main_v128) = convOf (V (Proc.devRef .tc main_v73)) (V (Proc.devRef .tc main_arg4)) := by
  simp only [conv2, TRef.binary, TRef.nullary, TRef.ternary, TRef.unary, TRef.toBuf, TRef.ofBuf, cast_eq]
  after_results_simp <;> rfl

set_option maxRecDepth 8192 in
set_option maxHeartbeats 8000000 in
theorem act2_out (V : Valuation τ sig (Elt F)) :
    after act2 V (Proc.devRef .tc main_v146) = addf (actOf (V (Proc.devRef .tc main_v128)) (V (Proc.devRef .tc main_arg5)) (V (Proc.devRef .tc main_arg1))) (V (Proc.devRef .tc main_arg0)) := by
  simp only [act2, TRef.binary, TRef.nullary, TRef.ternary, TRef.unary, TRef.toBuf, TRef.ofBuf, cast_eq]
  after_results_simp <;> rfl

/-! ## The chain -/

/-- @main's operations. -/
abbrev ops : List (HloOp τ sig (Elt F)) := padIn ++ (conv1 ++ (act1 ++ (padMid ++ (conv2 ++ act2))))

theorem after_app (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h | h | h
  · exact List.forall_iff_forall_mem.mp padIn_sub op h
  · exact List.forall_iff_forall_mem.mp conv1_sub op h
  · exact List.forall_iff_forall_mem.mp act1_sub op h
  · exact List.forall_iff_forall_mem.mp padMid_sub op h
  · exact List.forall_iff_forall_mem.mp conv2_sub op h
  · exact List.forall_iff_forall_mem.mp act2_sub op h

/-- A buffer no stretch writes. -/
theorem ops_keep (V : Valuation τ sig (Elt F)) (r : Ref sig .tc)
    (h : r ∉ padInW ∧ r ∉ conv1W ∧ r ∉ act1W ∧ r ∉ padMidW ∧ r ∉ conv2W ∧ r ∉ act2W) :
    after ops V (Proc.devRef .tc r) = V (Proc.devRef .tc r) := by
  simp only [ops, after_app]
  rw [act2_keep _ _ h.2.2.2.2.2, conv2_keep _ _ h.2.2.2.2.1, padMid_keep _ _ h.2.2.2.1, act1_keep _ _ h.2.2.1,
    conv1_keep _ _ h.2.1, padIn_keep _ _ h.1]

/-- The result's buffer after the whole line. -/
theorem ops_out (V : Valuation τ sig (Elt F)) :
    after ops V (Proc.devRef .tc main_v146)
      = refOf (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops, after_app]
  rw [act2_out, conv2_out,
    conv2_keep _ main_arg5 (by decide), conv2_keep _ main_arg1 (by decide), conv2_keep _ main_arg0 (by decide),
    padMid_out, padMid_keep _ main_arg4 (by decide), padMid_keep _ main_arg5 (by decide),
    padMid_keep _ main_arg1 (by decide), padMid_keep _ main_arg0 (by decide),
    act1_out, act1_keep _ main_arg4 (by decide), act1_keep _ main_arg5 (by decide),
    act1_keep _ main_arg1 (by decide), act1_keep _ main_arg0 (by decide),
    conv1_out, conv1_keep _ main_arg3 (by decide), conv1_keep _ main_arg4 (by decide), conv1_keep _ main_arg5 (by decide),
    conv1_keep _ main_arg1 (by decide), conv1_keep _ main_arg0 (by decide),
    padIn_out, padIn_keep _ main_arg2 (by decide), padIn_keep _ main_arg3 (by decide), padIn_keep _ main_arg4 (by decide),
    padIn_keep _ main_arg5 (by decide), padIn_keep _ main_arg1 (by decide), padIn_keep _ main_arg0 (by decide)]
  rfl

set_option maxRecDepth 8192 in
/-- THE REFERENCE'S RUN: it terminates with the result at `refOf` of the arguments, the arguments as launched and every
    counter at zero. -/
theorem ref_run (m : (ℓ : Loc nD τ sig) → Buf (Elt F) ℓ) (ρ : Dev nD → PrngReg) :
    θ_run (defs (F := F)) (onTc (τ := τ) (main (F := F))) ⟨m, fun _ => 0, ρ⟩ (fun r =>
    (∀ c : Dev nD, r.2.mem ((c.tc : Thread nD τ).loc main_v146)
          = refOf (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
    ∧ r.2.sem = fun _ => 0) :=
  (θ_run defs _ _).mono (fun r h => ⟨fun c => ⟨(h c main_v146).trans (ops_out _),
      (h c main_arg0).trans (ops_keep _ _ (by decide)), (h c main_arg1).trans (ops_keep _ _ (by decide)),
      (h c main_arg2).trans (ops_keep _ _ (by decide)), (h c main_arg3).trans (ops_keep _ _ (by decide)),
      (h c main_arg4).trans (ops_keep _ _ (by decide)), (h c main_arg5).trans (ops_keep _ _ (by decide))⟩,
      sem_eq_zero_of_no_sems rfl r.2⟩)
    (run_seq scopedRefs_eq scopedSems_eq defs main (fun _ => ops) main_eq (fun _ => ops_sub) m ρ)

end Cert.Proof.Ref

end
-- ==== Proof.Value.Math.lean ====
/-
  THE MATHEMATICS, over the extended reals and plain indices. `conv` is the 3x3 convolution of an image read in padded
  coordinates (row and column 0 and 225 are the padding), `lay` one layer: gate times convolution plus bias, then relu.
  `taps`: the way the kernel adds it up — one product of a 288x288 matrix with a slab holding three shifted rows, then
  the left and the right third of the product shifted by a column and masked — is `conv`. `gated`: a gate that is
  switched off where the channel's gates do not sum to something positive is a gate times the channel's 0/1 mask.
-/
module

public import Idealize.ShloMosaic.Lib.ValueIdx
public import Idealize.ShloMosaic.PureOps.Ideal.Laws

@[expose] public section

noncomputable section

namespace Cert.Proof.Math

open scoped BigOperators

/-- An image in padded coordinates: zero on the border row and column, the image one in from it. -/
def padv (f : Fin 96 → Fin 224 → Fin 224 → EReal) (c : Fin 96) (i j : ℕ) : EReal :=
  if h : (1 ≤ i ∧ i ≤ 224) ∧ (1 ≤ j ∧ j ≤ 224) then f c ⟨i - 1, by omega⟩ ⟨j - 1, by omega⟩ else 0

/-- The convolution's value for output channel `o` at row `y`, column `x`. -/
def conv (P : Fin 96 → ℕ → ℕ → EReal) (W : Fin 96 → Fin 96 → Fin 3 → Fin 3 → EReal) (o : Fin 96) (y x : ℕ) : EReal :=
  ∑ ky : Fin 3, ∑ kx : Fin 3, ∑ c : Fin 96, P c (y + ky) (x + kx) * W o c ky kx

/-- One layer's value. -/
def lay (P : Fin 96 → ℕ → ℕ → EReal) (W : Fin 96 → Fin 96 → Fin 3 → Fin 3 → EReal) (b g : Fin 96 → EReal)
    (o : Fin 96) (y x : ℕ) : EReal :=
  max (g o * (conv P W o y x + b o)) 0

/-- The gate in force: off where the channel's gates over the batch do not sum to something positive. -/
def gate (G : Fin 4 → Fin 96 → EReal) (bi : Fin 4) (c : Fin 96) : EReal :=
  if 0 < ∑ k, G k c then max (G bi c) 0 else 0

theorem padv_left (f : Fin 96 → Fin 224 → Fin 224 → EReal) (c : Fin 96) (i : ℕ) : padv f c i 0 = 0 :=
  dif_neg (by omega)

theorem padv_right (f : Fin 96 → Fin 224 → Fin 224 → EReal) (c : Fin 96) (i : ℕ) : padv f c i 225 = 0 :=
  dif_neg (by omega)

theorem padv_in (f : Fin 96 → Fin 224 → Fin 224 → EReal) (c : Fin 96) (y x : Fin 224) :
    padv f c (y.val + 1) (x.val + 1) = f c y x := by
  unfold padv
  rw [dif_pos (by omega)]
  rfl

/-- A gate and a 0/1 mask after it is the gate in force. -/
theorem gated (G : Fin 4 → Fin 96 → EReal) (bi : Fin 4) (c : Fin 96) (v m : EReal)
    (hm : m = if 0 < ∑ k, G k c then 1 else 0) :
    max ((if 0 < G bi c then G bi c else 0) * v * m) 0 = max (gate G bi c * v) 0 := by
  unfold gate
  have hg : (if 0 < G bi c then G bi c else 0) = max (G bi c) 0 := by
    split
    · next h => exact (max_eq_left h.le).symm
    · next h => exact (max_eq_right (not_lt.mp h)).symm
  rw [hg, hm]
  split
  · rw [mul_one]
  · rw [mul_zero, zero_mul]

/-- A row of the slab: channel `k % 96`, shifted down by `k / 96` rows. -/
def slab (s : Fin 96 → ℕ → EReal) (k : Fin 288) (p : ℕ) : EReal :=
  s ⟨k.val % 96, Nat.mod_lt _ (by decide)⟩ (p + 224 * (k.val / 96))

/-- The product of the weight matrix and the slab. -/
def prod (wm : Fin 288 → Fin 288 → EReal) (s : Fin 96 → ℕ → EReal) (q : Fin 288) (p : ℕ) : EReal :=
  ∑ k : Fin 288, wm q k * slab s k p

/-- Row `kx` of blocks of the product adds up the three taps of column offset `kx`. -/
theorem prod_eq (wm : Fin 288 → Fin 288 → EReal) (s : Fin 96 → ℕ → EReal)
    (W : Fin 96 → Fin 96 → Fin 3 → Fin 3 → EReal)
    (hw : ∀ (kx : Fin 3) (o : Fin 96) (ky : Fin 3) (c : Fin 96),
      wm ⟨kx.val * 96 + o.val, by omega⟩ ⟨ky.val * 96 + c.val, by omega⟩ = W o c ky kx)
    (kx : Fin 3) (o : Fin 96) (p : ℕ) :
    prod wm s ⟨kx.val * 96 + o.val, by omega⟩ p
      = ∑ ky : Fin 3, ∑ c : Fin 96, s c (p + 224 * ky.val) * W o c ky kx := by
  unfold prod
  rw [← (finProdFinEquiv (m := 3) (n := 96)).sum_comp, Fintype.sum_prod_type]
  refine Finset.sum_congr rfl fun ky _ => Finset.sum_congr rfl fun c _ => ?_
  have hk : (finProdFinEquiv (ky, c) : Fin (3 * 96)) = (⟨ky.val * 96 + c.val, by omega⟩ : Fin 288) :=
    Fin.ext (by simp [finProdFinEquiv]; omega)
  have h1 : (ky.val * 96 + c.val) % 96 = c.val := by omega
  have h2 : (ky.val * 96 + c.val) / 96 = ky.val := by omega
  rw [hk]
  simp only [slab, h1, h2]
  rw [hw kx o ky c, mul_comm]

/-- The kernel's way of adding up the nine taps is the convolution. -/
theorem taps (wm : Fin 288 → Fin 288 → EReal) (s : Fin 96 → ℕ → EReal) (P : Fin 96 → ℕ → ℕ → EReal)
    (W : Fin 96 → Fin 96 → Fin 3 → Fin 3 → EReal)
    (hw : ∀ (kx : Fin 3) (o : Fin 96) (ky : Fin 3) (c : Fin 96),
      wm ⟨kx.val * 96 + o.val, by omega⟩ ⟨ky.val * 96 + c.val, by omega⟩ = W o c ky kx)
    (o : Fin 96) (r x y : ℕ) (hx : x < 224)
    (hs : ∀ (c : Fin 96) (ky : Fin 3) (x' : ℕ), x' < 224 → s c (224 * r + x' + 224 * ky.val) = P c (y + ky.val) (x' + 1))
    (h0 : ∀ c i, P c i 0 = 0) (h225 : ∀ c i, P c i 225 = 0)
    (ml mr L R : EReal) (hml : ml = if 1 ≤ x then 1 else 0) (hmr : mr = if x ≤ 222 then 1 else 0)
    (hL : 1 ≤ x → L = prod wm s ⟨o.val, by omega⟩ (224 * r + x - 1))
    (hR : x ≤ 222 → R = prod wm s ⟨192 + o.val, by omega⟩ (224 * r + x + 1)) :
    (prod wm s ⟨96 + o.val, by omega⟩ (224 * r + x) + ml * L) + mr * R = conv P W o y x := by
  have key : ∀ kx : Fin 3, (x + kx.val = 0 ∨ x + kx.val = 225 → False) → ∀ q,
      q = 224 * r + (x + kx.val - 1) →
      prod wm s ⟨kx.val * 96 + o.val, by omega⟩ q = ∑ ky : Fin 3, ∑ c : Fin 96, P c (y + ky.val) (x + kx.val) * W o c ky kx := by
    intro kx hkx q hq
    rw [prod_eq wm s W hw kx o q]
    refine Finset.sum_congr rfl fun ky _ => Finset.sum_congr rfl fun c _ => ?_
    have hne : x + kx.val ≠ 0 ∧ x + kx.val ≠ 225 := ⟨fun h => hkx (Or.inl h), fun h => hkx (Or.inr h)⟩
    have := hs c ky (x + kx.val - 1) (by omega)
    rw [hq, this, show x + kx.val - 1 + 1 = x + kx.val by omega]
  have hleft : ml * L = ∑ ky : Fin 3, ∑ c : Fin 96, P c (y + ky.val) (x + 0) * W o c ky 0 := by
    by_cases h : 1 ≤ x
    · rw [hml, if_pos h, one_mul, hL h]
      have := key 0 (by simp only [Fin.val_zero]; omega) (224 * r + x - 1) (by simp only [Fin.val_zero]; omega)
      refine Eq.trans (congrArg (fun z => prod wm s z _) (Fin.ext ?_)) this
      simp
    · rw [hml, if_neg h, zero_mul]
      have hx0 : x = 0 := by omega
      simp only [hx0, Nat.add_zero, h0, zero_mul, Finset.sum_const_zero]
  have hright : mr * R = ∑ ky : Fin 3, ∑ c : Fin 96, P c (y + ky.val) (x + 2) * W o c ky 2 := by
    by_cases h : x ≤ 222
    · rw [hmr, if_pos h, one_mul, hR h]
      have := key 2 (by simp only [Fin.val_two]; omega) (224 * r + x + 1) (by simp only [Fin.val_two]; omega)
      refine Eq.trans (congrArg (fun z => prod wm s z _) (Fin.ext ?_)) this
      simp
    · rw [hmr, if_neg h, zero_mul]
      have hx0 : x = 223 := by omega
      simp only [hx0, h225, zero_mul, Finset.sum_const_zero]
  have hmid : prod wm s ⟨96 + o.val, by omega⟩ (224 * r + x)
      = ∑ ky : Fin 3, ∑ c : Fin 96, P c (y + ky.val) (x + 1) * W o c ky 1 := by
    have := key 1 (by simp only [Fin.val_one]; omega) (224 * r + x) (by simp only [Fin.val_one]; omega)
    refine Eq.trans (congrArg (fun z => prod wm s z _) (Fin.ext ?_)) this
    simp
  rw [hleft, hright, hmid]
  unfold conv
  rw [Finset.sum_comm (s := (Finset.univ : Finset (Fin 3))) (t := (Finset.univ : Finset (Fin 3)))]
  rw [Fin.sum_univ_three (f := fun kx : Fin 3 => ∑ ky : Fin 3, ∑ c : Fin 96, P c (y + ky.val) (x + kx.val) * W o c ky kx)]
  rw [add_comm (∑ ky : Fin 3, ∑ c : Fin 96, P c (y + ky.val) (x + 1) * W o c ky 1)]
  rfl

end Cert.Proof.Math

end
-- ==== Proof.Ref.Value.lean ====
/-
  WHAT THE REFERENCE COMPUTES, at the ideal values and read at an index: `ref_at` says that its result at image `b`,
  channel `o`, row `y`, column `x` is one layer over another over the padded images, plus the image itself.
-/
module

public import proofs.«01_k».proof.Proof.Ref.Run
public import proofs.«01_k».proof.Proof.Value.Math
public import Idealize.ShloMosaic.Lib.ValueIdx
public import Idealize.ShloMosaic.Lib.IdealHost
public import Idealize.ShloMosaic.Lib.Pipeline.Value
public import Idealize.ShloMosaic.PureOps.Ideal.Laws

@[expose] public section

noncomputable section

namespace Cert.Proof.Ref

open Cert.ReferenceIdeal Cert.ReferenceIdeal.Gen
open Idealize.ShloMosaic Idealize.ShloMosaic.ValueIdx
open Cert.Proof.Math (padv conv lay gate gated)
open scoped BigOperators

/-- The padded images at an index. -/
theorem pad_at (x : S4x96x224x224.Idx → EReal) (b : Fin 4) (c : Fin 96) (i j : Fin 226) :
    padOf (F := Ideal) x (ix4 b c i j) = padv (fun c y z => x (ix4 b c y z)) c i.val j.val := by
  unfold padOf pad padv
  by_cases h : (1 ≤ i.val ∧ i.val ≤ 224) ∧ (1 ≤ j.val ∧ j.val ≤ 224)
  · have hin : ∀ a : Fin 4, ((![0, 0, 1, 1] : Fin 4 → ℕ) a) ≤ ((ix4 b c i j : S4x96x226x226.Idx) a).val
        ∧ (((ix4 b c i j : S4x96x226x226.Idx) a).val - (![0, 0, 1, 1] : Fin 4 → ℕ) a) % ((![0, 0, 0, 0] : Fin 4 → ℕ) a + 1) = 0
        ∧ (((ix4 b c i j : S4x96x226x226.Idx) a).val - (![0, 0, 1, 1] : Fin 4 → ℕ) a) / ((![0, 0, 0, 0] : Fin 4 → ℕ) a + 1)
          < S4x96x224x224.size a := by
      intro a
      match a with
      | ⟨0, _⟩ => exact ⟨Nat.zero_le _, Nat.mod_one _, by show (b.val - 0) / 1 < 4; omega⟩
      | ⟨1, _⟩ => exact ⟨Nat.zero_le _, Nat.mod_one _, by show (c.val - 0) / 1 < 96; omega⟩
      | ⟨2, _⟩ => exact ⟨h.1.1, Nat.mod_one _, by show (i.val - 1) / 1 < 224; omega⟩
      | ⟨3, _⟩ => exact ⟨h.2.1, Nat.mod_one _, by show (j.val - 1) / 1 < 224; omega⟩
    rw [dif_pos h]
    refine (dif_pos hin).trans ?_
    refine congrArg x (funext fun a => Fin.ext ?_)
    match a with
    | ⟨0, _⟩ => show (b.val - 0) / 1 = b.val; omega
    | ⟨1, _⟩ => show (c.val - 0) / 1 = c.val; omega
    | ⟨2, _⟩ => show (i.val - 1) / 1 = i.val - 1; omega
    | ⟨3, _⟩ => show (j.val - 1) / 1 = j.val - 1; omega
  · rw [dif_neg h]
    refine (dif_neg fun hin => h ?_).trans ?_
    · have h2 := hin 2
      have h3 := hin 3
      have a2 : 1 ≤ i.val ∧ (i.val - 1) / 1 < 224 := ⟨h2.1, h2.2.2⟩
      have a3 : 1 ≤ j.val ∧ (j.val - 1) / 1 < 224 := ⟨h3.1, h3.2.2⟩
      omega
    · show (((0#32 : BitVec 32).toInt : ℝ) : EReal) = 0
      simp

/-- The contraction of one tap at an index. -/
theorem dot_at (l : FVec Ideal S4x96x224x224 .f32) (r : FVec Ideal S96x96 .f32) (b : Fin 4) (y x : Fin 224) (o : Fin 96) :
    Host.dotGeneral dot_S4x96x224x224_S96x96_S4x224x224x96_1_1_023_0_n_n none l r (ix4 b y x o)
      = ∑ c : Fin 96, l (ix4 b c y x) * r (ix2 o c) := by
  simp only [Host.dotGeneral]
  rw [Ideal.dotGeneral_apply, ← Equiv.sum_comp (contrEquiv1 dot_S4x96x224x224_S96x96_S4x224x224x96_1_1_023_0_n_n 96 rfl rfl).symm]
  refine Finset.sum_congr rfl fun k _ => ?_
  have hk := contrEquiv1_symm_val dot_S4x96x224x224_S96x96_S4x224x224x96_1_1_023_0_n_n 96 rfl rfl k
  refine congrArg₂ (· * ·) (congrArg l (funext fun a => Fin.ext ?_)) (congrArg r (funext fun a => Fin.ext ?_))
  · match a with
    | ⟨0, _⟩ => rfl
    | ⟨1, _⟩ => exact (DotDims.lhsIdx_val_of_single _ (cl := 1) rfl _ _).trans hk
    | ⟨2, _⟩ => rfl
    | ⟨3, _⟩ => rfl
  · match a with
    | ⟨0, _⟩ => rfl
    | ⟨1, _⟩ => exact (DotDims.rhsIdx_val_of_single _ (cr := 1) rfl _ _).trans hk

/-- One tap at an index. -/
theorem tap_at (ky kx : ℕ) (hy : ky < 3) (hx : kx < 3) (hw : S96x96x3x3.Slices ![0, 0, ky, kx] S96x96x1x1)
    (hs : S4x96x226x226.Slices ![0, 0, ky, kx] S4x96x224x224) (xp : S4x96x226x226.Idx → EReal) (w : S96x96x3x3.Idx → EReal)
    (b : Fin 4) (o : Fin 96) (y x : Fin 224) :
    tapOf (F := Ideal) ![0, 0, ky, kx] hw ![0, 0, ky, kx] hs xp w (ix4 b o y x)
      = ∑ c : Fin 96, xp (ix4 b c ⟨y.val + ky, by omega⟩ ⟨x.val + kx, by omega⟩) * w (ix4 o c ⟨ky, hy⟩ ⟨kx, hx⟩) := by
  unfold tapOf
  refine (transpose_apply _ _ _ (ix4 b o y x) (ix4 b y x o) (fun a => ?_)).trans ((dot_at _ _ b y x o).trans ?_)
  · match a with
    | ⟨0, _⟩ => rfl
    | ⟨1, _⟩ => rfl
    | ⟨2, _⟩ => rfl
    | ⟨3, _⟩ => rfl
  · refine Finset.sum_congr rfl fun c _ => congrArg₂ (· * ·) ?_ ?_
    · refine extractStridedSlice_apply _ xp hs _ _ (fun a => ?_)
      match a with
      | ⟨0, _⟩ => exact (Nat.zero_add _).symm
      | ⟨1, _⟩ => exact (Nat.zero_add _).symm
      | ⟨2, _⟩ => exact Nat.add_comm _ _
      | ⟨3, _⟩ => exact Nat.add_comm _ _
    · refine (shapeCast_apply _ _ (ix2 o c) (ix4 o c 0 0) ?_).trans ?_
      · rw [Shape.rowMajor_val_four, Shape.rowMajor_val_two]
        show ((o.val * 96 + c.val) * 1 + 0) * 1 + 0 = o.val * 96 + c.val
        omega
      · refine extractStridedSlice_apply _ w hw _ _ (fun a => ?_)
        match a with
        | ⟨0, _⟩ => exact (Nat.zero_add _).symm
        | ⟨1, _⟩ => exact (Nat.zero_add _).symm
        | ⟨2, _⟩ => exact (Nat.add_zero _).symm
        | ⟨3, _⟩ => exact (Nat.add_zero _).symm

/-- The zero constant spread over an array. -/
theorem zero_at {t : Shape} (dims : Fin 0 → Fin t.rank) (h : S_.BroadcastsInDim t dims) (j : t.Idx) :
    broadcastInDim t dims h (constant (F := Ideal) S_ .f32 0x00000000#32) j = (0 : EReal) :=
  (Ideal.ofBits_zero_f32 : (FloatOps.ofBits .f32 0x00000000#32 : Ideal .f32) = (0 : EReal))

/-- The convolution at an index. -/
theorem conv_at (xp : S4x96x226x226.Idx → EReal) (w : S96x96x3x3.Idx → EReal) (b : Fin 4) (P : Fin 96 → ℕ → ℕ → EReal)
    (hP : ∀ (c : Fin 96) (i j : Fin 226), xp (ix4 b c i j) = P c i.val j.val) (o : Fin 96) (y x : Fin 224) :
    convOf (F := Ideal) xp w (ix4 b o y x) = conv P (fun o c ky kx => w (ix4 o c ky kx)) o y.val x.val := by
  have tap : ∀ (ky kx : ℕ) (hy : ky < 3) (hx : kx < 3) (hw : S96x96x3x3.Slices ![0, 0, ky, kx] S96x96x1x1)
      (hs : S4x96x226x226.Slices ![0, 0, ky, kx] S4x96x224x224),
      tapOf (F := Ideal) ![0, 0, ky, kx] hw ![0, 0, ky, kx] hs xp w (ix4 b o y x)
        = ∑ c : Fin 96, P c (y.val + ky) (x.val + kx) * w (ix4 o c ⟨ky, hy⟩ ⟨kx, hx⟩) := by
    intro ky kx hy hx hw hs
    rw [tap_at ky kx hy hx hw hs]
    exact Finset.sum_congr rfl fun c _ => by rw [hP]
  unfold convOf conv
  simp only [Fin.sum_univ_three]
  show ((((((((_ + _) + _) + _) + _) + _) + _) + _) + _) + _ = _
  rw [zero_at, zero_add, tap 0 0 (by decide) (by decide), tap 0 1 (by decide) (by decide), tap 0 2 (by decide) (by decide),
    tap 1 0 (by decide) (by decide), tap 1 1 (by decide) (by decide), tap 1 2 (by decide) (by decide),
    tap 2 0 (by decide) (by decide), tap 2 1 (by decide) (by decide), tap 2 2 (by decide) (by decide)]
  simp only [add_assoc]
  rfl

/-- The sum of a channel's gates over the batch. -/
theorem sum_at (g : S4x96.Idx → EReal) (o : Fin 96) :
    Host.reduceAdd (F := Ideal) (φ := .f32) g (constant S_ .f32 0x00000000#32) reducesTo_S4x96_S96_d0 h_S_ (ix1 o) = ∑ k : Fin 4, g (ix2 k o) := by
  simp only [Host.reduceAdd, Ideal.hostReduceAdd_def]
  rw [Ideal.hostReduceAdd_single reducesTo_S4x96_S96_d0 (by decide)]
  refine (congrArg₂ (· + ·) (Ideal.ofBits_zero_f32 : (FloatOps.ofBits .f32 0x00000000#32 : Ideal .f32) = (0 : EReal))
    (Finset.sum_congr rfl fun k _ => ?_)).trans (zero_add _)
  exact congrArg g (funext fun a => Fin.ext (by match a with | ⟨0, _⟩ => rfl | ⟨1, _⟩ => rfl))

/-- A row of channel values spread over the images. -/
theorem chan_at (v : S96.Idx → EReal) (b : Fin 4) (o : Fin 96) (y x : Fin 224) :
    broadcastInDim S4x96x224x224 ![0, 1, 2, 3] bcast_S1x96x1x1_S4x96x224x224_0_1_2_3
      (broadcastInDim S1x96x1x1 ![1] bcast_S96_S1x96x1x1_1 v) (ix4 b o y x) = v (ix1 o) := by
  refine (broadcastInDim_apply _ _ _ (ix4 b o y x) (ix4 0 o 0 0) (fun a => ?_)).trans
    (broadcastInDim_apply _ _ _ (ix4 0 o 0 0) (ix1 o) (fun a => ?_))
  · match a with
    | ⟨0, _⟩ => rfl
    | ⟨1, _⟩ => rfl
    | ⟨2, _⟩ => rfl
    | ⟨3, _⟩ => rfl
  · match a with
    | ⟨0, _⟩ => rfl

/-- Gate values spread over the images. -/
theorem gate_at (v : S4x96.Idx → EReal) (b : Fin 4) (o : Fin 96) (y x : Fin 224) :
    broadcastInDim S4x96x224x224 ![0, 1, 2, 3] bcast_S4x96x1x1_S4x96x224x224_0_1_2_3
      (broadcastInDim S4x96x1x1 ![0, 1] bcast_S4x96_S4x96x1x1_0_1 v) (ix4 b o y x) = v (ix2 b o) := by
  refine (broadcastInDim_apply _ _ _ (ix4 b o y x) (ix4 b o 0 0) (fun a => ?_)).trans
    (broadcastInDim_apply _ _ _ (ix4 b o 0 0) (ix2 b o) (fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl

/-- A choice by "greater than zero". -/
theorem select_pos (v a b : EReal) : Scalar.select (Ideal.cmp .ogt v 0) a b = if 0 < v then a else b := by
  unfold Ideal.cmp
  by_cases h : 0 < v <;> simp [h, Scalar.select]

/-- The number "greater than zero". -/
theorem num_pos (v : EReal) : ((((Ideal.cmp .ogt v 0).toNat : ℝ)) : EReal) = if 0 < v then 1 else 0 := by
  unfold Ideal.cmp
  by_cases h : 0 < v <;> simp [h]

/-- Bias, gate, mask and relu at an index. -/
theorem act_at (v : S4x96x224x224.Idx → EReal) (bias : S96.Idx → EReal) (g : S4x96.Idx → EReal) (b : Fin 4) (o : Fin 96) (y x : Fin 224) :
    actOf (F := Ideal) v bias g (ix4 b o y x)
      = max (gate (fun k c => g (ix2 k c)) b o * (v (ix4 b o y x) + bias (ix1 o))) 0 := by
  unfold actOf
  refine Eq.trans ?_ (gated (fun k c => g (ix2 k c)) b o _ _ rfl)
  refine congrArg₂ max (congrArg₂ (· * ·) (congrArg₂ (· * ·) ?_ (congrArg (v (ix4 b o y x) + ·) (chan_at bias b o y x))) ?_) (zero_at _ _ _)
  · refine (gate_at _ b o y x).trans ?_
    rw [select_apply, zero_at]
    refine Eq.trans ?_ (select_pos _ _ _)
    refine congrArg (fun c => Scalar.select c _ _) ?_
    show Ideal.cmp .ogt _ (broadcastInDim S4x96 ![] bcast_S_S4x96 (constant (F := Ideal) S_ .f32 0x00000000#32) (ix2 b o)) = _
    rw [zero_at]
  · refine (chan_at _ b o y x).trans ?_
    refine Eq.trans ?_ (num_pos _)
    show (((Ideal.cmp .ogt (Host.reduceAdd (F := Ideal) (φ := .f32) g (constant S_ .f32 0x00000000#32) reducesTo_S4x96_S96_d0 h_S_ (ix1 o))
      (broadcastInDim S96 ![] bcast_S_S96 (constant (F := Ideal) S_ .f32 0x00000000#32) (ix1 o))).toNat : ℝ) : EReal) = _
    rw [sum_at, zero_at]

/-- The reference's result at an index. -/
theorem ref_at (x : S4x96x224x224.Idx → EReal) (g : S4x96.Idx → EReal) (w1 : S96x96x3x3.Idx → EReal) (b1 : S96.Idx → EReal)
    (w2 : S96x96x3x3.Idx → EReal) (b2 : S96.Idx → EReal) (b : Fin 4) (o : Fin 96) (y z : Fin 224) :
    refOf (F := Ideal) x g w1 b1 w2 b2 (ix4 b o y z)
      = lay (padv fun o' y' z' => lay (padv fun c i j => x (ix4 b c i j)) (fun o c ky kx => w1 (ix4 o c ky kx)) (fun o => b1 (ix1 o))
          (gate (fun k c => g (ix2 k c)) b) o' y'.val z'.val) (fun o c ky kx => w2 (ix4 o c ky kx)) (fun o => b2 (ix1 o))
          (gate (fun k c => g (ix2 k c)) b) o y.val z.val + x (ix4 b o y z) := by
  unfold refOf
  refine congrArg (· + x (ix4 b o y z)) ?_
  have hid : ∀ (o' : Fin 96) (y' z' : Fin 224), actOf (F := Ideal) (convOf (padOf x) w1) b1 g (ix4 b o' y' z')
      = lay (padv fun c i j => x (ix4 b c i j)) (fun o c ky kx => w1 (ix4 o c ky kx)) (fun o => b1 (ix1 o))
          (gate (fun k c => g (ix2 k c)) b) o' y'.val z'.val := by
    intro o' y' z'
    rw [act_at, conv_at _ _ b _ (fun c i j => pad_at x b c i j)]
    rfl
  rw [act_at, conv_at _ _ b _ (fun c i j => pad_at _ b c i j)]
  simp only [hid]
  rfl

end Cert.Proof.Ref

end
-- ==== Proof.Value.Host.lean ====
/-
  THE ARRAYS THE HOST OPERATIONS PREPARE for the launch, as functions of the arguments: the images with rows and columns
  flattened, the gate in force, the two weight arrays laid out as 288 x 288 matrices, the two biases as columns, and the
  table of masks and row numbers. The second half reads each at an index, at the ideal values.
-/
module

public import proofs.«01_k».proof.Proof.Ideal.Launch
public import proofs.«01_k».proof.Proof.Value.Math
public import Idealize.ShloMosaic.Lib.StableHlo.Run
public import Idealize.ShloMosaic.Lib.StableHlo.RunRead
public import Idealize.ShloMosaic.Lib.ValueIdx
public import Idealize.ShloMosaic.Lib.IdealHost
public import Idealize.ShloMosaic.PureOps.Ideal.Laws

@[expose] public section

noncomputable section

namespace Cert.Proof.Value

open Cert.KernelIdeal Cert.KernelIdeal.Gen
open Idealize.ShloMosaic Idealize.ShloMosaic.ValueIdx
open Idealize.ShloMosaic.TcCoe
open Idealize.ShloMosaic.StableHlo
open scoped BigOperators

section Arrays

variable {F : FTy → Type} [FloatOps F]

/-- The images, rows and columns flattened. -/
def flatOf (x : Vec F S4x96x224x224 .f32) : Vec F S4x96x50176 .f32 := shapeCast S4x96x50176 x shapeCasts_S4x96x224x224_S4x96x50176

/-- The gate in force: the positive part of the gate, where the channel's gates sum to something positive. -/
def gateOf (g : Vec F S4x96 .f32) : Vec F S4x96x1 .f32 :=
  shapeCast S4x96x1
    (select
      (broadcastInDim S4x96 ![0, 1] bcast_S1x96_S4x96_0_1
        (cmpf .ogt
          (broadcastInDim S1x96 ![1] bcast_S96_S1x96_1 (Host.reduceAdd g (constant S_ .f32 0x00000000#32) reducesTo_S4x96_S96_d0 h_S_))
          (broadcastInDim S1x96 ![] bcast_S_S1x96 (constant S_ .f32 0x00000000#32))))
      (maximumf g (broadcastInDim S4x96 ![] bcast_S_S4x96 (constant S_ .f32 0x00000000#32)))
      (broadcastInDim S4x96 ![] bcast_S_S4x96 (constant S_ .f32 0x00000000#32)))
    shapeCasts_S4x96_S4x96x1

/-- A weight array as a matrix: column offset and output channel down, row offset and input channel across. -/
def matOf (w : Vec F S96x96x3x3 .f32) : Vec F S288x288 .bf16 :=
  truncf .bf16 (shapeCast S288x288 (transpose S3x96x3x96 [3, 0, 2, 1] w transposes_S96x96x3x3_S3x96x3x96_3_0_2_1)
    shapeCasts_S3x96x3x96_S288x288) bitsLt_bf16_f32

/-- A bias as a column. -/
def colOf (b : Vec F S96 .f32) : Vec F S96x1 .f32 := shapeCast S96x1 b shapeCasts_S96_S96x1

/-- The table. -/
def tableOf : Vec F S3x12992 .f32 := fun i => FloatOps.ofBits .f32 (lit0 (S3x12992.rowMajor i))

set_option maxRecDepth 8192 in
set_option maxHeartbeats 8000000 in
theorem host_flat (V : Valuation τ sig (Elt F)) :
    after hostOps0 V (Proc.devRef .tc main_call0_v0) = flatOf (V (Proc.devRef .tc main_arg0)) := by
  simp only [hostOps0, TRef.binary, TRef.nullary, TRef.ternary, TRef.unary, TRef.reshape, TRef.toBuf, TRef.ofBuf, cast_eq]
  after_results_simp <;> rfl

set_option maxRecDepth 8192 in
set_option maxHeartbeats 8000000 in
theorem host_gate (V : Valuation τ sig (Elt F)) :
    after hostOps0 V (Proc.devRef .tc main_call0_v8) = gateOf (V (Proc.devRef .tc main_arg1)) := by
  simp only [hostOps0, TRef.binary, TRef.nullary, TRef.ternary, TRef.unary, TRef.reshape, TRef.toBuf, TRef.ofBuf, cast_eq]
  after_results_simp <;> rfl

set_option maxRecDepth 8192 in
set_option maxHeartbeats 8000000 in
theorem host_w1 (V : Valuation τ sig (Elt F)) :
    after hostOps0 V (Proc.devRef .tc main_call0_v11) = matOf (V (Proc.devRef .tc main_arg2)) := by
  simp only [hostOps0, TRef.binary, TRef.nullary, TRef.ternary, TRef.unary, TRef.reshape, TRef.toBuf, TRef.ofBuf, cast_eq]
  after_results_simp <;> rfl

set_option maxRecDepth 8192 in
set_option maxHeartbeats 8000000 in
theorem host_w2 (V : Valuation τ sig (Elt F)) :
    after hostOps0 V (Proc.devRef .tc main_call0_v14) = matOf (V (Proc.devRef .tc main_arg4)) := by
  simp only [hostOps0, TRef.binary, TRef.nullary, TRef.ternary, TRef.unary, TRef.reshape, TRef.toBuf, TRef.ofBuf, cast_eq]
  after_results_simp <;> rfl

set_option maxRecDepth 8192 in
set_option maxHeartbeats 8000000 in
theorem host_b1 (V : Valuation τ sig (Elt F)) :
    after hostOps0 V (Proc.devRef .tc main_call0_v15) = colOf (V (Proc.devRef .tc main_arg3)) := by
  simp only [hostOps0, TRef.binary, TRef.nullary, TRef.ternary, TRef.unary, TRef.reshape, TRef.toBuf, TRef.ofBuf, cast_eq]
  after_results_simp <;> rfl

set_option maxRecDepth 8192 in
set_option maxHeartbeats 8000000 in
theorem host_b2 (V : Valuation τ sig (Elt F)) :
    after hostOps0 V (Proc.devRef .tc main_call0_v16) = colOf (V (Proc.devRef .tc main_arg5)) := by
  simp only [hostOps0, TRef.binary, TRef.nullary, TRef.ternary, TRef.unary, TRef.reshape, TRef.toBuf, TRef.ofBuf, cast_eq]
  after_results_simp <;> rfl

set_option maxRecDepth 8192 in
set_option maxHeartbeats 8000000 in
theorem host_table (V : Valuation τ sig (Elt F)) :
    after hostOps0 V (Proc.devRef .tc main_call0_cst) = tableOf (F := F) := by
  simp only [hostOps0, TRef.binary, TRef.nullary, TRef.ternary, TRef.unary, TRef.reshape, TRef.toBuf, TRef.ofBuf, cast_eq]
  after_results_simp <;> rfl

end Arrays

/-! ## At an index -/

/-- The flattened images. -/
theorem flat_at (x : S4x96x224x224.Idx → EReal) (b : Fin 4) (c : Fin 96) (n : Fin 50176) (y z : Fin 224)
    (h : n.val = 224 * y.val + z.val) : flatOf (F := Ideal) x (ix3 b c n) = x (ix4 b c y z) := by
  unfold flatOf
  refine shapeCast_apply x _ (ix3 b c n) (ix4 b c y z) ?_
  rw [Shape.rowMajor_val_four, Shape.rowMajor_val_three]
  show ((b.val * 96 + c.val) * 224 + y.val) * 224 + z.val = (b.val * 96 + c.val) * 50176 + n.val
  omega

/-- The weight matrix. -/
theorem mat_at (w : S96x96x3x3.Idx → EReal) (kx : Fin 3) (o : Fin 96) (ky : Fin 3) (c : Fin 96) (p q : Fin 288)
    (hp : p.val = kx.val * 96 + o.val) (hq : q.val = ky.val * 96 + c.val) :
    matOf (F := Ideal) w (ix2 p q) = w (ix4 o c ky kx) := by
  unfold matOf
  refine (shapeCast_apply _ shapeCasts_S3x96x3x96_S288x288 (ix2 p q) (ix4 kx o ky c) ?_).trans
    (transpose_apply _ w _ (ix4 kx o ky c) (ix4 o c ky kx) (fun a => ?_))
  · rw [Shape.rowMajor_val_four, Shape.rowMajor_val_two]
    show ((kx.val * 96 + o.val) * 3 + ky.val) * 96 + c.val = p.val * 288 + q.val
    rw [hp, hq]; omega
  · match a with
    | ⟨0, _⟩ => rfl
    | ⟨1, _⟩ => rfl
    | ⟨2, _⟩ => rfl
    | ⟨3, _⟩ => rfl

/-- A bias column. -/
theorem col_at (v : S96.Idx → EReal) (o : Fin 96) : colOf (F := Ideal) v (ix2 o 0) = v (ix1 o) := by
  unfold colOf
  refine shapeCast_apply v _ (ix2 o 0) (ix1 o) ?_
  rw [Shape.rowMajor_val_one, Shape.rowMajor_val_two]
  show o.val = o.val * 1 + 0
  omega

/-- A zero constant spread over an array. -/
theorem zero_at {t : Shape} (dims : Fin 0 → Fin t.rank) (h : S_.BroadcastsInDim t dims) (j : t.Idx) :
    broadcastInDim t dims h (constant (F := Ideal) S_ .f32 0x00000000#32) j = (0 : EReal) :=
  (Ideal.ofBits_zero_f32 : (FloatOps.ofBits .f32 0x00000000#32 : Ideal .f32) = (0 : EReal))

/-- The sum of a channel's gates over the batch. -/
theorem sum_at (g : S4x96.Idx → EReal) (o : Fin 96) :
    Host.reduceAdd (F := Ideal) (φ := .f32) g (constant S_ .f32 0x00000000#32) reducesTo_S4x96_S96_d0 h_S_ (ix1 o) = ∑ k : Fin 4, g (ix2 k o) := by
  simp only [Host.reduceAdd, Ideal.hostReduceAdd_def]
  rw [Ideal.hostReduceAdd_single reducesTo_S4x96_S96_d0 (by decide)]
  refine (congrArg₂ (· + ·) (Ideal.ofBits_zero_f32 : (FloatOps.ofBits .f32 0x00000000#32 : Ideal .f32) = (0 : EReal))
    (Finset.sum_congr rfl fun k _ => ?_)).trans (zero_add _)
  exact congrArg g (funext fun a => Fin.ext (by match a with | ⟨0, _⟩ => rfl | ⟨1, _⟩ => rfl))

/-- The gate in force. -/
theorem gate_at (g : S4x96.Idx → EReal) (b : Fin 4) (o : Fin 96) :
    gateOf (F := Ideal) g (ix3 b o 0) = Math.gate (fun k c => g (ix2 k c)) b o := by
  unfold gateOf Math.gate
  refine (shapeCast_apply _ shapeCasts_S4x96_S4x96x1 (ix3 b o 0) (ix2 b o) ?_).trans ?_
  · rw [Shape.rowMajor_val_two, Shape.rowMajor_val_three]
    show b.val * 96 + o.val = (b.val * 96 + o.val) * 1 + 0
    omega
  · rw [select_apply, zero_at]
    have hc : broadcastInDim S4x96 ![0, 1] bcast_S1x96_S4x96_0_1
        (cmpf .ogt
          (broadcastInDim S1x96 ![1] bcast_S96_S1x96_1 (Host.reduceAdd (F := Ideal) (φ := .f32) g (constant S_ .f32 0x00000000#32) reducesTo_S4x96_S96_d0 h_S_))
          (broadcastInDim S1x96 ![] bcast_S_S1x96 (constant (F := Ideal) S_ .f32 0x00000000#32))) (ix2 b o)
        = Ideal.cmp .ogt (∑ k : Fin 4, g (ix2 k o)) 0 := by
      refine (broadcastInDim_apply _ _ _ (ix2 b o) (ix2 0 o) (fun a => ?_)).trans ?_
      · match a with
        | ⟨0, _⟩ => rfl
        | ⟨1, _⟩ => rfl
      · refine congrArg₂ (Ideal.cmp .ogt) ?_ (zero_at _ _ _)
        refine (broadcastInDim_apply _ _ _ (ix2 0 o) (ix1 o) (fun a => ?_)).trans (sum_at g o)
        match a with
        | ⟨0, _⟩ => rfl
    rw [hc]
    have hm : maximumf (F := Ideal) g (broadcastInDim S4x96 ![] bcast_S_S4x96 (constant (F := Ideal) S_ .f32 0x00000000#32)) (ix2 b o)
        = max (g (ix2 b o)) 0 := congrArg (max (g (ix2 b o))) (zero_at _ _ _)
    rw [hm]
    unfold Ideal.cmp
    by_cases h : 0 < ∑ k : Fin 4, g (ix2 k o) <;> simp [h, Scalar.select]

end Cert.Proof.Value

end
-- ==== Proof.Value.Product.lean ====
/-
  THE TWO MATRIX PRODUCTS OF A BLOCK, at the ideal values and read at an index.

  Each layer multiplies a 288 x 288 weight matrix with a slab of three vertically shifted copies of its input stacked
  along the rows: entry `(q, p)` of the product is `Math.prod`. The left and right thirds of the product are then shifted
  by one position, which `shift_right` and `shift_left` read at an index.
-/
module

public import proofs.«01_k».proof.Proof.Ideal.Body
public import proofs.«01_k».proof.Proof.Value.Math
public import Idealize.ShloMosaic.Lib.ValueIdx
public import Idealize.ShloMosaic.PureOps.Ideal.Laws

@[expose] public section

noncomputable section

namespace Cert.Proof.Value

open Cert.KernelIdeal Cert.KernelIdeal.Gen
open Idealize.ShloMosaic Idealize.ShloMosaic.ValueIdx
open scoped BigOperators

/-! ## Shifts by one position -/

variable {α : Type}

/-- A column in front, the array's last column dropped: position `q + 1` reads the array at `q`. -/
theorem shift_right {n m : ℕ} (z : (⟨2, ![96, 1]⟩ : Shape).Idx → α) (v : (⟨2, ![96, m]⟩ : Shape).Idx → α)
    (hs : (⟨2, ![96, m]⟩ : Shape).Slices ![0, 0] ⟨2, ![96, n]⟩)
    (hc : Shape.Concatenates [⟨2, ![96, 1]⟩, ⟨2, ![96, n]⟩] ⟨2, ![96, m]⟩ 1) (hn : n + 1 = m)
    (o : Fin 96) (p q : Fin m) (hq : q.val + 1 = p.val) :
    concatenate (⟨2, ![96, m]⟩ : Shape) 1 [⟨⟨2, ![96, 1]⟩, z⟩, ⟨⟨2, ![96, n]⟩, extractStridedSlice ⟨2, ![96, n]⟩ ![0, 0] v hs⟩] hc
      (ix2 o p) = v (ix2 o q) := by
  let i : (⟨2, ![96, n]⟩ : Shape).Idx := ix2 o (⟨q.val, by omega⟩ : Fin n)
  refine (concatenate_pair_apply_right (s₁ := ⟨2, ![96, 1]⟩) (s₂ := ⟨2, ![96, n]⟩) _ z _ hc (ix2 o p) rfl rfl i ?_ ?_).trans
    (slice2_axis1_apply 0 v hs o _ q (by simp))
  · intro b hb
    match b with
    | ⟨0, _⟩ => rfl
    | ⟨1, _⟩ => exact absurd rfl hb
  · show q.val + 1 = p.val
    exact hq

/-- A column behind, the array's first column dropped: position `p` reads the array at `p + 1`. -/
theorem shift_left {n m : ℕ} (z : (⟨2, ![96, 1]⟩ : Shape).Idx → α) (v : (⟨2, ![96, m]⟩ : Shape).Idx → α)
    (hs : (⟨2, ![96, m]⟩ : Shape).Slices ![0, 1] ⟨2, ![96, n]⟩)
    (hc : Shape.Concatenates [⟨2, ![96, n]⟩, ⟨2, ![96, 1]⟩] ⟨2, ![96, m]⟩ 1) (hn : n + 1 = m)
    (o : Fin 96) (p q : Fin m) (hq : p.val + 1 = q.val) :
    concatenate (⟨2, ![96, m]⟩ : Shape) 1 [⟨⟨2, ![96, n]⟩, extractStridedSlice ⟨2, ![96, n]⟩ ![0, 1] v hs⟩, ⟨⟨2, ![96, 1]⟩, z⟩] hc
      (ix2 o p) = v (ix2 o q) := by
  let i : (⟨2, ![96, n]⟩ : Shape).Idx := ix2 o (⟨p.val, by omega⟩ : Fin n)
  refine (concatenate_pair_apply_left (s₁ := ⟨2, ![96, n]⟩) (s₂ := ⟨2, ![96, 1]⟩) _ _ z hc (ix2 o p) rfl i ?_).trans
    (slice2_axis1_apply 1 v hs o _ q (by show q.val = 1 + p.val; omega))
  intro b
  match b with
  | ⟨0, _⟩ => rfl
  | ⟨1, _⟩ => rfl

/-- Three slices of an array, at column offsets `d`, `d + 224`, `d + 448`, stacked along the rows. -/
theorem stack {n m : ℕ} (d0 d1 d2 : ℕ) (v : (⟨2, ![96, m]⟩ : Shape).Idx → α)
    (h0 : (⟨2, ![96, m]⟩ : Shape).Slices ![0, d0] ⟨2, ![96, n]⟩) (h1 : (⟨2, ![96, m]⟩ : Shape).Slices ![0, d1] ⟨2, ![96, n]⟩)
    (h2 : (⟨2, ![96, m]⟩ : Shape).Slices ![0, d2] ⟨2, ![96, n]⟩)
    (hc : Shape.Concatenates [⟨2, ![96, n]⟩, ⟨2, ![96, n]⟩, ⟨2, ![96, n]⟩] ⟨2, ![288, n]⟩ 0)
    (e1 : d1 = d0 + 224) (e2 : d2 = d0 + 448)
    (k : Fin 288) (p : Fin n) (c : Fin 96) (q : Fin m) (hk : c.val = k.val % 96) (hq : q.val = d0 + p.val + 224 * (k.val / 96)) :
    concatenate (⟨2, ![288, n]⟩ : Shape) 0 [⟨⟨2, ![96, n]⟩, extractStridedSlice ⟨2, ![96, n]⟩ ![0, d0] v h0⟩,
      ⟨⟨2, ![96, n]⟩, extractStridedSlice ⟨2, ![96, n]⟩ ![0, d1] v h1⟩,
      ⟨⟨2, ![96, n]⟩, extractStridedSlice ⟨2, ![96, n]⟩ ![0, d2] v h2⟩] hc (ix2 k p) = v (ix2 c q) := by
  have hk3 : k.val / 96 < 3 := by omega
  have hd := Nat.div_add_mod k.val 96
  have piece : ∀ (j : ℕ) (hj : k.val / 96 = j) (b : Fin 2), b.cast rfl ≠ (0 : Fin 2) →
      ((ix2 c p : (⟨2, ![96, n]⟩ : Shape).Idx) b).val = ((ix2 k p : (⟨2, ![288, n]⟩ : Shape).Idx) b).val := by
    intro j hj b hb
    match b with
    | ⟨0, _⟩ => exact absurd rfl hb
    | ⟨1, _⟩ => rfl
  let xs : List ((s : Shape) × (s.Idx → α)) := [⟨⟨2, ![96, n]⟩, extractStridedSlice ⟨2, ![96, n]⟩ ![0, d0] v h0⟩,
      ⟨⟨2, ![96, n]⟩, extractStridedSlice ⟨2, ![96, n]⟩ ![0, d1] v h1⟩,
      ⟨⟨2, ![96, n]⟩, extractStridedSlice ⟨2, ![96, n]⟩ ![0, d2] v h2⟩]
  interval_cases hj : k.val / 96
  · refine (concatenate_apply_piece (t := ⟨2, ![288, n]⟩) 0 xs hc (ix2 k p) 0 (by decide : 0 < 3) ⟨2, ![96, n]⟩ _ rfl rfl 0 rfl (ix2 c p) (piece 0 rfl) ?_).trans
      (slice2_axis1_apply d0 v h0 _ _ q (by omega))
    show 0 + c.val = k.val; omega
  · refine (concatenate_apply_piece (t := ⟨2, ![288, n]⟩) 0 xs hc (ix2 k p) 1 (by decide : 1 < 3) ⟨2, ![96, n]⟩ _ rfl rfl 96 rfl (ix2 c p) (piece 1 rfl) ?_).trans
      (slice2_axis1_apply d1 v h1 _ _ q (by omega))
    show 96 + c.val = k.val; omega
  · refine (concatenate_apply_piece (t := ⟨2, ![288, n]⟩) 0 xs hc (ix2 k p) 2 (by decide : 2 < 3) ⟨2, ![96, n]⟩ _ rfl rfl 192 rfl (ix2 c p) (piece 2 rfl) ?_).trans
      (slice2_axis1_apply d2 v h2 _ _ q (by omega))
    show 192 + c.val = k.val; omega

/-! ## The products -/

/-- The first layer's product at an index. -/
theorem dot1_at (l : FVec Ideal S288x288 .bf16) (r : FVec Ideal S288x12992 .bf16) (q : Fin 288) (p : Fin 12992) :
    matmul dot_S288x288_S288x12992_S288x12992_1_0_0_1_n_n none l r (constant S288x12992 .f32 0x00000000#32) (ix2 q p)
      = ∑ k : Fin 288, l (ix2 q k) * r (ix2 k p) := by
  refine (Ideal.matmul_constant_zero_apply _ _ l r (ix2 q p)).trans ?_
  rw [← Equiv.sum_comp (contrEquiv1 dot_S288x288_S288x12992_S288x12992_1_0_0_1_n_n 288 rfl rfl).symm]
  refine Finset.sum_congr rfl fun k _ => ?_
  have hk := contrEquiv1_symm_val dot_S288x288_S288x12992_S288x12992_1_0_0_1_n_n 288 rfl rfl k
  refine congrArg₂ (· * ·) (congrArg l (funext fun a => Fin.ext ?_)) (congrArg r (funext fun a => Fin.ext ?_))
  · match a with
    | ⟨0, _⟩ => rfl
    | ⟨1, _⟩ => exact (DotDims.lhsIdx_val_of_single _ (cl := 1) rfl _ _).trans hk
  · match a with
    | ⟨0, _⟩ => exact (DotDims.rhsIdx_val_of_single _ (cr := 0) rfl _ _).trans hk
    | ⟨1, _⟩ => rfl

/-- The second layer's product at an index. -/
theorem dot2_at (l : FVec Ideal S288x288 .bf16) (r : FVec Ideal S288x12544 .bf16) (q : Fin 288) (p : Fin 12544) :
    matmul dot_S288x288_S288x12544_S288x12544_1_0_0_1_n_n none l r (constant S288x12544 .f32 0x00000000#32) (ix2 q p)
      = ∑ k : Fin 288, l (ix2 q k) * r (ix2 k p) := by
  refine (Ideal.matmul_constant_zero_apply _ _ l r (ix2 q p)).trans ?_
  rw [← Equiv.sum_comp (contrEquiv1 dot_S288x288_S288x12544_S288x12544_1_0_0_1_n_n 288 rfl rfl).symm]
  refine Finset.sum_congr rfl fun k _ => ?_
  have hk := contrEquiv1_symm_val dot_S288x288_S288x12544_S288x12544_1_0_0_1_n_n 288 rfl rfl k
  refine congrArg₂ (· * ·) (congrArg l (funext fun a => Fin.ext ?_)) (congrArg r (funext fun a => Fin.ext ?_))
  · match a with
    | ⟨0, _⟩ => rfl
    | ⟨1, _⟩ => exact (DotDims.lhsIdx_val_of_single _ (cl := 1) rfl _ _).trans hk
  · match a with
    | ⟨0, _⟩ => exact (DotDims.rhsIdx_val_of_single _ (cr := 0) rfl _ _).trans hk
    | ⟨1, _⟩ => rfl

/-- A matrix of weights by plain indices. -/
def mat (w : S288x288.Idx → EReal) (a b : Fin 288) : EReal := w (ix2 a b)

/-- An array of `96` rows by plain row and position, zero past its end. -/
def ext {m : ℕ} (S : (⟨2, ![96, m]⟩ : Shape).Idx → EReal) (c : Fin 96) (n : ℕ) : EReal :=
  if h : n < m then S (ix2 c ⟨n, h⟩) else 0

theorem ext_of_lt {m : ℕ} (S : (⟨2, ![96, m]⟩ : Shape).Idx → EReal) (c : Fin 96) (n : ℕ) (h : n < m) :
    ext S c n = S (ix2 c ⟨n, h⟩) := dif_pos h

/-- The first layer's product: the scratch shifted by two rows is the slab's input. -/
theorem pay5_at (S : S96x14336.Idx → EReal) (w : S288x288.Idx → EReal) (q : Fin 288) (p : Fin 12992) :
    k0_pay5 (F := Ideal) S w (ix2 q p) = Math.prod (mat w) (fun c n => ext S c (448 + n)) q p := by
  refine (dot1_at (shapeCast S288x288 w shapeCasts_S288x288_S288x288) _ q p).trans ?_
  unfold Math.prod
  refine Finset.sum_congr rfl fun k _ => ?_
  rw [shapeCast_self]
  refine congrArg (w (ix2 q k) * ·) ?_
  have hlt : 448 + (p.val + 224 * (k.val / 96)) < 14336 := by omega
  refine (stack 448 672 896 (truncf (F := Ideal) .bf16 S bitsLt_bf16_f32) slices_S96x14336_o0_448_S96x12992 slices_S96x14336_o0_672_S96x12992
    slices_S96x14336_o0_896_S96x12992 concatenates_S96x12992_S96x12992_S96x12992_S288x12992_d0 rfl rfl k p
    ⟨k.val % 96, Nat.mod_lt _ (by decide)⟩ ⟨448 + (p.val + 224 * (k.val / 96)), hlt⟩ rfl (by show 448 + (_ + _) = _; omega)).trans ?_
  exact (ext_of_lt S _ _ hlt).symm

/-- The middle third of the first product, -/
theorem pay6_at (S : S96x14336.Idx → EReal) (w : S288x288.Idx → EReal) (o : Fin 96) (p : Fin 12992) :
    k0_pay6 (F := Ideal) S w (ix2 o p) = Math.prod (mat w) (fun c n => ext S c (448 + n)) ⟨96 + o.val, by omega⟩ p :=
  (slice2_axis0_apply 96 (k0_pay5 (F := Ideal) S w) slices_S288x12992_o96_0_S96x12992 o p ⟨96 + o.val, by omega⟩ rfl).trans (pay5_at S w _ p)

/-- the left third one position to the left, -/
theorem pay8_at (S : S96x14336.Idx → EReal) (w : S288x288.Idx → EReal) (o : Fin 96) (p q : Fin 12992) (hq : q.val + 1 = p.val) :
    k0_pay8 (F := Ideal) S w (ix2 o p) = Math.prod (mat w) (fun c n => ext S c (448 + n)) ⟨o.val, by omega⟩ q := by
  have h5 := pay5_at S w ⟨o.val, by omega⟩ q
  unfold k0_pay8
  generalize k0_pay5 (F := Ideal) S w = D at h5 ⊢
  exact (shift_right (n := 12991) (m := 12992) _ _ _ _ (by norm_num) o p q hq).trans
    ((slice2_axis0_apply 0 D slices_S288x12992_o0_0_S96x12992 o q ⟨o.val, by omega⟩ (by simp)).trans h5)

/-- and the right third one position to the right. -/
theorem pay9_at (S : S96x14336.Idx → EReal) (w : S288x288.Idx → EReal) (o : Fin 96) (p q : Fin 12992) (hq : p.val + 1 = q.val) :
    k0_pay9 (F := Ideal) S w (ix2 o p) = Math.prod (mat w) (fun c n => ext S c (448 + n)) ⟨192 + o.val, by omega⟩ q := by
  have h5 := pay5_at S w ⟨192 + o.val, by omega⟩ q
  unfold k0_pay9
  generalize k0_pay5 (F := Ideal) S w = D at h5 ⊢
  exact (shift_left (n := 12991) (m := 12992) _ _ _ _ (by norm_num) o p q hq).trans
    ((slice2_axis0_apply 192 D slices_S288x12992_o192_0_S96x12992 o q ⟨192 + o.val, by omega⟩ rfl).trans h5)

/-- The second layer's product of a weight matrix and the three shifted copies of `v`. -/
theorem second_at (v : S96x12992.Idx → EReal) (w : S288x288.Idx → EReal) (q : Fin 288) (p : Fin 12544) :
    matmul (F := Ideal) (φ₁ := .bf16) dot_S288x288_S288x12544_S288x12544_1_0_0_1_n_n none (shapeCast S288x288 w shapeCasts_S288x288_S288x288)
      (concatenate S288x12544 0 [⟨S96x12544, extractStridedSlice S96x12544 ![0, 0] (truncf (F := Ideal) .bf16 v bitsLt_bf16_f32) slices_S96x12992_o0_0_S96x12544⟩,
        ⟨S96x12544, extractStridedSlice S96x12544 ![0, 224] (truncf (F := Ideal) .bf16 v bitsLt_bf16_f32) slices_S96x12992_o0_224_S96x12544⟩,
        ⟨S96x12544, extractStridedSlice S96x12544 ![0, 448] (truncf (F := Ideal) .bf16 v bitsLt_bf16_f32) slices_S96x12992_o0_448_S96x12544⟩]
        concatenates_S96x12544_S96x12544_S96x12544_S288x12544_d0)
      (constant S288x12544 .f32 0x00000000#32) (ix2 q p) = Math.prod (mat w) (ext v) q p := by
  refine (dot2_at (shapeCast S288x288 w shapeCasts_S288x288_S288x288) _ q p).trans ?_
  unfold Math.prod
  refine Finset.sum_congr rfl fun k _ => ?_
  rw [shapeCast_self]
  refine congrArg (w (ix2 q k) * ·) ?_
  have hlt : p.val + 224 * (k.val / 96) < 12992 := by omega
  refine (stack 0 224 448 (truncf (F := Ideal) .bf16 v bitsLt_bf16_f32) slices_S96x12992_o0_0_S96x12544 slices_S96x12992_o0_224_S96x12544
    slices_S96x12992_o0_448_S96x12544 concatenates_S96x12544_S96x12544_S96x12544_S288x12544_d0 rfl rfl k p
    ⟨k.val % 96, Nat.mod_lt _ (by decide)⟩ ⟨p.val + 224 * (k.val / 96), hlt⟩ rfl (by show _ + _ = _; omega)).trans ?_
  exact (ext_of_lt v _ _ hlt).symm

end Cert.Proof.Value

end
-- ==== Proof.Value.Strip.lean ====
/-
  ONE BLOCK'S OUTPUT STRIP AT AN INDEX, at the ideal values.

  `hid` is the first layer's strip as the second layer reads it: 58 rows, a row outside the image zeroed. `hid_at` and
  `pay1_at` read the two layers' closing arithmetic, `pay12_at` and `pay13_at` the second product's thirds.
-/
module

public import proofs.«01_k».proof.Proof.Value.Product

@[expose] public section

noncomputable section

namespace Cert.Proof.Value

open Cert.KernelIdeal Cert.KernelIdeal.Gen
open Idealize.ShloMosaic Idealize.ShloMosaic.ValueIdx
open scoped BigOperators

/-- A column broadcast along the rows' positions. -/
theorem bcast_col {m : ℕ} {α : Type} (v : (⟨2, ![96, 1]⟩ : Shape).Idx → α) (h : (⟨2, ![96, 1]⟩ : Shape).Broadcasts ⟨2, ![96, m]⟩)
    (o : Fin 96) (p : Fin m) : broadcastTo ⟨2, ![96, m]⟩ v h (ix2 o p) = v (ix2 o (0 : Fin 1)) := by
  refine broadcastTo_apply v h (ix2 o p) (ix2 o (0 : Fin 1)) fun ax => ?_
  match ax with
  | ⟨0, _⟩ => rfl
  | ⟨1, _⟩ => rfl

/-- The first layer's strip: the three thirds of the product put together with the column masks, bias, gate, relu, and
    the rows outside the image zeroed. -/
def hid {F : FTy → Type} [FloatOps F] (arg1 : BitVec 32) (v12 : FVec F S96x1 .f32) (v13 v14 v15 : Vec F S1x12992 .f32)
    (v26 v30 v32 : FVec F S96x12992 .f32) (v39 : Vec F S96x1 .f32) : FVec F S96x12992 .f32 :=
  have v33 : FVec F S96x12992 .f32 := broadcastTo S96x12992 v13 broadcasts_S1x12992_S96x12992
  have v34 : FVec F S96x12992 .f32 := mulf v33 v30
  have v35 : FVec F S96x12992 .f32 := addf v26 v34
  have v36 : FVec F S96x12992 .f32 := broadcastTo S96x12992 v14 broadcasts_S1x12992_S96x12992
  have v37 : FVec F S96x12992 .f32 := mulf v36 v32
  have v38 : FVec F S96x12992 .f32 := addf v35 v37
  have v40 : FVec F S96x1 .f32 := shapeCast S96x1 v39 shapeCasts_S96x1_S96x1
  have v41 : FVec F S96x12992 .f32 := broadcastTo S96x12992 v40 broadcasts_S96x1_S96x12992
  have v42 : FVec F S96x12992 .f32 := addf v38 v41
  have v43 : FVec F S96x12992 .f32 := broadcastTo S96x12992 v12 broadcasts_S96x1_S96x12992
  have v44 : FVec F S96x12992 .f32 := mulf v43 v42
  have cst_18 : F .f32 := Scalar.ofBits .f32 0x00000000#32
  have v45 : FVec F S96x12992 .f32 := broadcast S96x12992 cst_18
  have v46 : FVec F S96x12992 .f32 := maximumf v44 v45
  let v47 : BitVec 32 := Scalar.muli arg1 56#32
  let v48 : BitVec 32 := Scalar.subi v47 1#32
  have v49 : F .f32 := Scalar.sitofp .f32 v48
  have v50 : FVec F S1x12992 .f32 := broadcast S1x12992 v49
  have v51 : FVec F S1x12992 .f32 := addf v15 v50
  have cst_19 : F .f32 := Scalar.ofBits .f32 0x00000000#32
  have v52 : FVec F S1x12992 .f32 := broadcast S1x12992 cst_19
  have v53 : IVec S1x12992 1 := cmpf .oge v51 v52
  have cst_20 : F .f32 := Scalar.ofBits .f32 0x435F0000#32
  have v54 : FVec F S1x12992 .f32 := broadcast S1x12992 cst_20
  have v55 : IVec S1x12992 1 := cmpf .ole v51 v54
  have v56 : IVec S1x12992 1 := andi v53 v55
  have cst_21 : F .f32 := Scalar.ofBits .f32 0x00000000#32
  have v57 : IVec S1x12992 1 := shapeCast S1x12992 v56 shapeCasts_S1x12992_S1x12992
  have v58 : IVec S96x12992 1 := broadcastTo S96x12992 v57 broadcasts_S1x12992_S96x12992
  have v59 : FVec F S96x12992 .f32 := broadcast S96x12992 cst_21
  have v60 : FVec F S96x12992 .f32 := select v58 v46 v59

  v60

variable (arg1 : BitVec 32) (v12 v39 : S96x1.Idx → EReal) (v13 v14 v15 : S1x12992.Idx → EReal) (v26 v30 v32 : S96x12992.Idx → EReal)
  (w : S288x288.Idx → EReal)

/-- The word `223.0`. -/
theorem word223 : Ideal.ofBits .f32 0x435F0000#32 = ((223 : ℝ) : EReal) := by
  simp [Ideal.ofBits, Ideal.ieee, -EReal.coe_mul]; norm_num

open Classical in
/-- The first layer's strip at an index. -/
theorem hid_at (o : Fin 96) (p : Fin 12992) :
    hid (F := Ideal) arg1 v12 v13 v14 v15 v26 v30 v32 v39 (ix2 o p)
      = if 0 ≤ v15 (ix2 0 p) + (((arg1 * 56#32 - 1#32).toInt : ℝ) : EReal)
          ∧ v15 (ix2 0 p) + (((arg1 * 56#32 - 1#32).toInt : ℝ) : EReal) ≤ ((223 : ℝ) : EReal) then
        max (v12 (ix2 o 0) * (((v26 (ix2 o p) + v13 (ix2 0 p) * v30 (ix2 o p)) + v14 (ix2 0 p) * v32 (ix2 o p)) + v39 (ix2 o 0))) 0
      else 0 := by
  have e13 := broadcastTo_1b_ab_apply v13 broadcasts_S1x12992_S96x12992 o p
  have e14 := broadcastTo_1b_ab_apply v14 broadcasts_S1x12992_S96x12992 o p
  have e12 := bcast_col v12 broadcasts_S96x1_S96x12992 o p
  have e39 := bcast_col v39 broadcasts_S96x1_S96x12992 o p
  unfold hid
  simp only [shapeCast_self]
  rw [select_apply]
  have em : ∀ c : IVec S1x12992 1, broadcastTo S96x12992 c broadcasts_S1x12992_S96x12992 (ix2 o p) = c (ix2 0 p) :=
    fun c => broadcastTo_1b_ab_apply c broadcasts_S1x12992_S96x12992 o p
  rw [em]
  have hb : ∀ (s : EReal) (a b : EReal), Scalar.select (BitVec.ofBool (decide (0 ≤ s)) &&& BitVec.ofBool (decide (s ≤ ((223 : ℝ) : EReal)))) a b
      = if 0 ≤ s ∧ s ≤ ((223 : ℝ) : EReal) then a else b := by
    intro s a b
    by_cases h1 : 0 ≤ s <;> by_cases h2 : s ≤ ((223 : ℝ) : EReal) <;> simp [h1, h2, Scalar.select]
  have hz : (FloatOps.ofBits .f32 0x00000000#32 : Ideal .f32) = (0 : EReal) := Ideal.ofBits_zero_f32
  have hw : (FloatOps.ofBits .f32 0x435F0000#32 : Ideal .f32) = ((223 : ℝ) : EReal) := word223
  refine Eq.trans ?_ (hb _ _ _)
  refine congr (congrArg₂ Scalar.select ?_ ?_) ?_
  · show Ideal.cmp .oge _ (FloatOps.ofBits .f32 0x00000000#32 : Ideal .f32) &&& Ideal.cmp .ole _ (FloatOps.ofBits .f32 0x435F0000#32 : Ideal .f32) = _
    rw [hz, hw]
    rfl
  · show max (broadcastTo S96x12992 v12 _ (ix2 o p) * (((v26 (ix2 o p) + broadcastTo S96x12992 v13 _ (ix2 o p) * v30 (ix2 o p))
      + broadcastTo S96x12992 v14 _ (ix2 o p) * v32 (ix2 o p)) + broadcastTo S96x12992 v39 _ (ix2 o p))) (FloatOps.ofBits .f32 0x00000000#32 : Ideal .f32) = _
    rw [hz]
    exact congrArg (max · 0) (congrArg₂ (· * ·) e12 (congrArg₂ (· + ·) (congrArg₂ (· + ·) (congrArg (v26 (ix2 o p) + ·)
      (congrArg (· * v30 (ix2 o p)) e13)) (congrArg (· * v32 (ix2 o p)) e14)) e39))
  · exact hz

/-- The second layer's product is that of the weights and the first layer's strip. -/
theorem pay10_at (q : Fin 288) (p : Fin 12544) :
    k0_pay10 (F := Ideal) arg1 v12 v13 v14 v15 v26 v30 v32 v39 w (ix2 q p)
      = Math.prod (mat w) (ext (hid (F := Ideal) arg1 v12 v13 v14 v15 v26 v30 v32 v39)) q p :=
  second_at (hid (F := Ideal) arg1 v12 v13 v14 v15 v26 v30 v32 v39) w q p

/-- Its right third, one position to the right. -/
theorem pay12_at (o : Fin 96) (p q : Fin 12544) (hq : p.val + 1 = q.val) :
    k0_pay12 (F := Ideal) arg1 v12 v13 v14 v15 v26 v30 v32 v39 w (ix2 o p)
      = Math.prod (mat w) (ext (hid (F := Ideal) arg1 v12 v13 v14 v15 v26 v30 v32 v39)) ⟨192 + o.val, by omega⟩ q := by
  have h5 := pay10_at arg1 v12 v39 v13 v14 v15 v26 v30 v32 w ⟨192 + o.val, by omega⟩ q
  unfold k0_pay12
  generalize k0_pay10 (F := Ideal) arg1 v12 v13 v14 v15 v26 v30 v32 v39 w = D at h5 ⊢
  exact (shift_left (n := 12543) (m := 12544) _ _ _ _ (by norm_num) o p q hq).trans
    ((slice2_axis0_apply 192 D slices_S288x12544_o192_0_S96x12544 o q ⟨192 + o.val, by omega⟩ rfl).trans h5)

/-- Its middle third plus the masked left third, one position to the left. -/
theorem pay13_at (o : Fin 96) (p : Fin 12544) (p' : Fin 12992) (hp : p'.val = p.val) :
    ∃ L : EReal, (∀ q : Fin 12544, q.val + 1 = p.val →
        L = Math.prod (mat w) (ext (hid (F := Ideal) arg1 v12 v13 v14 v15 v26 v30 v32 v39)) ⟨o.val, by omega⟩ q)
      ∧ k0_pay13 (F := Ideal) arg1 v12 v13 v14 v15 v26 v30 v32 v39 w (ix2 o p)
        = Math.prod (mat w) (ext (hid (F := Ideal) arg1 v12 v13 v14 v15 v26 v30 v32 v39)) ⟨96 + o.val, by omega⟩ p + v13 (ix2 0 p') * L := by
  have hl := fun q => pay10_at arg1 v12 v39 v13 v14 v15 v26 v30 v32 w ⟨o.val, by omega⟩ q
  have hm := pay10_at arg1 v12 v39 v13 v14 v15 v26 v30 v32 w ⟨96 + o.val, by omega⟩ p
  unfold k0_pay13
  generalize k0_pay10 (F := Ideal) arg1 v12 v13 v14 v15 v26 v30 v32 v39 w = D at hl hm ⊢
  have ev : broadcastTo S96x12544 (extractStridedSlice S1x12544 ![0, 0] v13 slices_S1x12992_o0_0_S1x12544) broadcasts_S1x12544_S96x12544 (ix2 o p)
      = v13 (ix2 0 p') :=
    (broadcastTo_1b_ab_apply _ broadcasts_S1x12544_S96x12544 o p).trans
      (slice2_axis1_apply 0 v13 slices_S1x12992_o0_0_S1x12544 0 p p' (by omega))
  refine ⟨concatenate S96x12544 1 [⟨S96x1, k0_pay11 (F := Ideal)⟩, ⟨S96x12543, extractStridedSlice S96x12543 ![0, 0]
      (extractStridedSlice S96x12544 ![0, 0] D slices_S288x12544_o0_0_S96x12544) slices_S96x12544_o0_0_S96x12543⟩]
      concatenates_S96x1_S96x12543_S96x12544_d1 (ix2 o p), fun q hq => ?_, ?_⟩
  · exact (shift_right (n := 12543) (m := 12544) _ _ _ _ (by norm_num) o p q hq).trans
      ((slice2_axis0_apply 0 D slices_S288x12544_o0_0_S96x12544 o q ⟨o.val, by omega⟩ (by simp)).trans (hl q))
  · exact congrArg₂ (· + ·) ((slice2_axis0_apply 96 D slices_S288x12544_o96_0_S96x12544 o p ⟨96 + o.val, by omega⟩ rfl).trans hm)
      (congrArg (· * _) ev)

/-- The stored strip at an index, from the second product's thirds. -/
theorem pay1_at (v76 v80 : S96x12544.Idx → EReal) (v85 : S96x1.Idx → EReal) (v93 : S1x96x12544.Idx → EReal)
    (o : Fin 96) (p : Fin 12544) (p' : Fin 12992) (hp : p'.val = p.val) :
    k0_pay1 (F := Ideal) v12 v14 v76 v80 v85 v93 (ix3 0 o p)
      = max (v12 (ix2 o 0) * ((v80 (ix2 o p) + v14 (ix2 0 p') * v76 (ix2 o p)) + v85 (ix2 o 0))) 0 + v93 (ix3 0 o p) := by
  have ev : broadcastTo S96x12544 (extractStridedSlice S1x12544 ![0, 0] v14 slices_S1x12992_o0_0_S1x12544) broadcasts_S1x12544_S96x12544 (ix2 o p)
      = v14 (ix2 0 p') :=
    (broadcastTo_1b_ab_apply _ broadcasts_S1x12544_S96x12544 o p).trans
      (slice2_axis1_apply 0 v14 slices_S1x12992_o0_0_S1x12544 0 p p' (by omega))
  have e12 := bcast_col v12 broadcasts_S96x1_S96x12544 o p
  have e85 := bcast_col v85 broadcasts_S96x1_S96x12544 o p
  have hz : (FloatOps.ofBits .f32 0x00000000#32 : Ideal .f32) = (0 : EReal) := Ideal.ofBits_zero_f32
  unfold k0_pay1
  simp only [shapeCast_self]
  refine (shapeCast_ab_1ab_apply _ shapeCasts_S96x12544_S1x96x12544 0 o p).trans ?_
  refine congrArg₂ (· + ·) ?_ (shapeCast_1ab_ab_apply v93 shapeCasts_S1x96x12544_S96x12544 o p)
  refine congrArg₂ max ?_ hz
  exact congrArg₂ (· * ·) e12 (congrArg₂ (· + ·) (congrArg (v80 (ix2 o p) + ·) (congrArg (· * v76 (ix2 o p)) ev)) e85)

end Cert.Proof.Value

end
-- ==== Proof.Value.Block.lean ====
/-
  ONE BLOCK COMPUTES TWO LAYERS of the images: `block_at` says that the strip stored at grid point `i` holds, at channel
  `o`, row `y` of the strip and column `x`, the second layer over the first at image row `56 t + y`, plus the residual.
-/
module

public import proofs.«01_k».proof.Proof.Value.Strip

@[expose] public section

noncomputable section

namespace Cert.Proof.Value

open Cert.KernelIdeal Cert.KernelIdeal.Gen
open Idealize.ShloMosaic Idealize.ShloMosaic.ValueIdx
open Cert.Proof.Ideal (blockOut auxL auxR auxN)
open Cert.Proof.Math (padv lay)
open scoped BigOperators

/-- The image row of the strip's first hidden row, as the kernel's row test has it. -/
theorem row_word (t : Fin 4) : (BitVec.ofNat 32 t.val * 56#32 - 1#32).toInt = (56 * t.val : ℤ) - 1 := by
  revert t; decide

/-- The kernel's row test: hidden row `r` of strip `t` is a row of the image. -/
theorem row_test (t : Fin 4) (r : ℕ) :
    (0 ≤ ((r : ℝ) : EReal) + (((BitVec.ofNat 32 t.val * 56#32 - 1#32).toInt : ℝ) : EReal)
      ∧ ((r : ℝ) : EReal) + (((BitVec.ofNat 32 t.val * 56#32 - 1#32).toInt : ℝ) : EReal) ≤ ((223 : ℝ) : EReal))
    ↔ 1 ≤ 56 * t.val + r ∧ 56 * t.val + r ≤ 224 := by
  rw [row_word, ← EReal.coe_add, EReal.coe_nonneg, EReal.coe_le_coe_iff]
  have e : ((r : ℝ) + (((56 * t.val : ℤ) - 1 : ℤ) : ℝ)) = (((r : ℤ) + (56 * t.val : ℤ) - 1 : ℤ) : ℝ) := by push_cast; ring
  rw [e, show ((223 : ℝ)) = ((223 : ℤ) : ℝ) by norm_num, Int.cast_le, show (0 : ℝ) = ((0 : ℤ) : ℝ) by norm_num, Int.cast_le]
  omega

/-- What is known of a block's operands: the scratch holds rows of the padded images `X`, the two matrices the weights,
    the columns the gate and the biases, the table the masks and row numbers. -/
structure Operands (t : Fin 4) (X : Fin 96 → Fin 224 → Fin 224 → EReal) (W1 W2 : Fin 96 → Fin 96 → Fin 3 → Fin 3 → EReal)
    (B1 B2 G : Fin 96 → EReal) (S : S96x14336.Idx → EReal) (g : S1x96x1.Idx → EReal) (a : S3x12992.Idx → EReal)
    (w1 w2 : S288x288.Idx → EReal) (b1 b2 : S96x1.Idx → EReal) : Prop where
  scratch : ∀ (c : Fin 96) (r x ky : ℕ) (p : Fin 14336), r < 58 → x < 224 → ky < 3 → 1 ≤ 56 * t.val + r → 56 * t.val + r ≤ 224 →
    p.val = 448 + (224 * r + x + 224 * ky) → S (ix2 c p) = padv X c (56 * t.val + r - 1 + ky) (x + 1)
  weights1 : ∀ (kx : Fin 3) (o : Fin 96) (ky : Fin 3) (c : Fin 96),
    mat w1 ⟨kx.val * 96 + o.val, by omega⟩ ⟨ky.val * 96 + c.val, by omega⟩ = W1 o c ky kx
  weights2 : ∀ (kx : Fin 3) (o : Fin 96) (ky : Fin 3) (c : Fin 96),
    mat w2 ⟨kx.val * 96 + o.val, by omega⟩ ⟨ky.val * 96 + c.val, by omega⟩ = W2 o c ky kx
  bias1 : ∀ o, b1 (ix2 o 0) = B1 o
  bias2 : ∀ o, b2 (ix2 o 0) = B2 o
  gates : ∀ o, g (ix3 0 o 0) = G o
  left : ∀ p : Fin 12992, a (ix2 0 p) = if 1 ≤ p.val % 224 then 1 else 0
  right : ∀ p : Fin 12992, a (ix2 1 p) = if p.val % 224 ≤ 222 then 1 else 0
  rows : ∀ p : Fin 12992, a (ix2 2 p) = (((p.val / 224 : ℕ) : ℝ) : EReal)

variable {t : Fin 4} {X : Fin 96 → Fin 224 → Fin 224 → EReal} {W1 W2 : Fin 96 → Fin 96 → Fin 3 → Fin 3 → EReal}
  {B1 B2 G : Fin 96 → EReal} {S : S96x14336.Idx → EReal} {g : S1x96x1.Idx → EReal} {a : S3x12992.Idx → EReal}
  {w1 w2 : S288x288.Idx → EReal} {b1 b2 : S96x1.Idx → EReal}

theorem auxL_at (a : S3x12992.Idx → EReal) (p : Fin 12992) : auxL (F := Ideal) a (ix2 0 p) = a (ix2 0 p) := by
  unfold auxL
  refine congrArg a (funext fun ax => Fin.ext ?_)
  match ax with
  | ⟨0, _⟩ => rfl
  | ⟨1, _⟩ => show 0 + 1 * p.val = p.val; omega
theorem auxR_at (a : S3x12992.Idx → EReal) (p : Fin 12992) : auxR (F := Ideal) a (ix2 0 p) = a (ix2 1 p) := by
  unfold auxR
  refine congrArg a (funext fun ax => Fin.ext ?_)
  match ax with
  | ⟨0, _⟩ => rfl
  | ⟨1, _⟩ => show 0 + 1 * p.val = p.val; omega
theorem auxN_at (a : S3x12992.Idx → EReal) (p : Fin 12992) : auxN (F := Ideal) a (ix2 0 p) = a (ix2 2 p) := by
  unfold auxN
  refine congrArg a (funext fun ax => Fin.ext ?_)
  match ax with
  | ⟨0, _⟩ => rfl
  | ⟨1, _⟩ => show 0 + 1 * p.val = p.val; omega

/-- The gate's column. -/
theorem pay4_at (g : S1x96x1.Idx → EReal) (o : Fin 96) : k0_pay4 (F := Ideal) g (ix2 o 0) = g (ix3 0 o 0) :=
  shapeCast_1ab_ab_apply g shapeCasts_S1x96x1_S96x1 o 0

/-- The first layer's strip as the block computes it. -/
def hidden (t : Fin 4) (S : S96x14336.Idx → EReal) (g : S1x96x1.Idx → EReal) (a : S3x12992.Idx → EReal) (w1 : S288x288.Idx → EReal)
    (b1 : S96x1.Idx → EReal) : S96x12992.Idx → EReal :=
  hid (F := Ideal) (BitVec.ofNat 32 t.val) (k0_pay4 (F := Ideal) g) (auxL (F := Ideal) a) (auxR (F := Ideal) a) (auxN (F := Ideal) a)
    (k0_pay6 (F := Ideal) S w1) (k0_pay8 (F := Ideal) S w1) (k0_pay9 (F := Ideal) S w1) b1

/-- The first layer's strip holds rows of the padded first layer. -/
theorem hidden_at (H : Operands t X W1 W2 B1 B2 G S g a w1 w2 b1 b2) (o : Fin 96) (r x : ℕ) (hr : r < 58) (hx : x < 224)
    (p : Fin 12992) (hp : p.val = 224 * r + x) :
    hidden t S g a w1 b1 (ix2 o p) = padv (fun o' y' x' => lay (padv X) W1 B1 G o' y'.val x'.val) o (56 * t.val + r) (x + 1) := by
  have hmod : p.val % 224 = x := by omega
  have hdiv : p.val / 224 = r := by omega
  unfold hidden
  rw [hid_at, auxN_at, auxL_at, auxR_at, H.rows, H.left, H.right, pay4_at, H.gates, H.bias1, hmod, hdiv, pay6_at]
  by_cases hrow : 1 ≤ 56 * t.val + r ∧ 56 * t.val + r ≤ 224
  · rw [if_pos ((row_test t r).mpr hrow)]
    unfold padv
    rw [dif_pos ⟨hrow, by omega⟩]
    unfold lay
    have ht := Math.taps (mat w1) (fun c n => ext S c (448 + n)) (padv X) W1 H.weights1 o r x (56 * t.val + r - 1) hx
      (fun c ky x' hx' => by
        have hlt : 448 + (224 * r + x' + 224 * ky.val) < 14336 := by omega
        rw [ext_of_lt S c _ hlt]
        exact H.scratch c r x' ky.val ⟨_, hlt⟩ hr hx' ky.isLt hrow.1 hrow.2 rfl)
      (fun c i => Math.padv_left X c i) (fun c i => Math.padv_right X c i)
      (if 1 ≤ x then 1 else 0) (if x ≤ 222 then 1 else 0) (k0_pay8 (F := Ideal) S w1 (ix2 o p)) (k0_pay9 (F := Ideal) S w1 (ix2 o p)) rfl rfl
      (fun h => by
        have := pay8_at S w1 o p ⟨p.val - 1, by omega⟩ (by show p.val - 1 + 1 = p.val; omega)
        rw [this]; exact congrArg _ (by show p.val - 1 = _; omega))
      (fun h => by
        have := pay9_at S w1 o p ⟨p.val + 1, by omega⟩ rfl
        rw [this]; exact congrArg _ (by show p.val + 1 = _; omega))
    rw [hp]
    show max (G o * (((Math.prod (mat w1) (fun c n => ext S c (448 + n)) ⟨96 + o.val, by omega⟩ (224 * r + x)
      + (if 1 ≤ x then (1 : EReal) else 0) * k0_pay8 (F := Ideal) S w1 (ix2 o p))
      + (if x ≤ 222 then (1 : EReal) else 0) * k0_pay9 (F := Ideal) S w1 (ix2 o p)) + B1 o)) 0 = _
    rw [ht]
    rfl
  · rw [if_neg (fun h => hrow ((row_test t r).mp h))]
    unfold padv
    rw [dif_neg (fun h => hrow h.1)]

/-- The stored strip at an index. -/
theorem block_at (i : grid0.Coords) (ht : t.val = (i 1).val) (H : Operands t X W1 W2 B1 B2 G S g a w1 w2 b1 b2)
    (res : S1x96x12544.Idx → EReal) (o : Fin 96) (y x : ℕ) (hy : y < 56) (hx : x < 224) (p : Fin 12544) (hp : p.val = 224 * y + x) :
    blockOut (F := Ideal) i S g a w1 w2 b1 b2 res (ix3 0 o p)
      = lay (padv fun o' y' x' => lay (padv X) W1 B1 G o' y'.val x'.val) W2 B2 G o (56 * t.val + y) x + res (ix3 0 o p) := by
  let p' : Fin 12992 := ⟨p.val, by omega⟩
  have hmod : p'.val % 224 = x := by show p.val % 224 = x; omega
  unfold blockOut
  rw [← ht]
  rw [pay1_at _ _ _ _ _ _ o p p' rfl]
  obtain ⟨L, hL, e13⟩ := pay13_at (BitVec.ofNat 32 t.val) (k0_pay4 (F := Ideal) g) b1 (auxL (F := Ideal) a) (auxR (F := Ideal) a)
    (auxN (F := Ideal) a) (k0_pay6 (F := Ideal) S w1) (k0_pay8 (F := Ideal) S w1) (k0_pay9 (F := Ideal) S w1) w2 o p p' rfl
  have h12 := fun q => pay12_at (BitVec.ofNat 32 t.val) (k0_pay4 (F := Ideal) g) b1 (auxL (F := Ideal) a) (auxR (F := Ideal) a)
    (auxN (F := Ideal) a) (k0_pay6 (F := Ideal) S w1) (k0_pay8 (F := Ideal) S w1) (k0_pay9 (F := Ideal) S w1) w2 o p q
  rw [e13, auxL_at, auxR_at, H.left, H.right, hmod, pay4_at, H.gates, H.bias2]
  change ∀ q : Fin 12544, _ → _ = Math.prod (mat w2) (ext (hidden t S g a w1 b1)) _ _ at h12
  change ∀ q : Fin 12544, _ → _ = Math.prod (mat w2) (ext (hidden t S g a w1 b1)) _ _ at hL
  generalize k0_pay12 (F := Ideal) (BitVec.ofNat 32 t.val) (k0_pay4 (F := Ideal) g) (auxL (F := Ideal) a) (auxR (F := Ideal) a)
    (auxN (F := Ideal) a) (k0_pay6 (F := Ideal) S w1) (k0_pay8 (F := Ideal) S w1) (k0_pay9 (F := Ideal) S w1) b1 w2 (ix2 o p) = R at h12 ⊢
  change max (G o * (((Math.prod (mat w2) (ext (hidden t S g a w1 b1)) _ _ + _) + _) + _)) 0 + _ = _
  have key := Math.taps (mat w2) (ext (hidden t S g a w1 b1)) (padv fun o' y' x' => lay (padv X) W1 B1 G o' y'.val x'.val) W2 H.weights2
      o y x (56 * t.val + y) hx
      (fun c ky x' hx' => by
        have hlt : 224 * y + x' + 224 * ky.val < 12992 := by omega
        rw [ext_of_lt _ c _ hlt]
        rw [hidden_at H c (y + ky.val) x' (by omega) hx' ⟨_, hlt⟩
          (by show 224 * y + x' + 224 * ky.val = 224 * (y + ky.val) + x'; omega), Nat.add_assoc])
      (fun c i => Math.padv_left _ c i) (fun c i => Math.padv_right _ c i)
      (if 1 ≤ x then 1 else 0) (if x ≤ 222 then 1 else 0) L R rfl rfl
      (fun h => by
        rw [hL ⟨p.val - 1, by omega⟩ (by show p.val - 1 + 1 = p.val; omega)]
        exact congrArg _ (by show p.val - 1 = _; omega))
      (fun h => by
        rw [h12 ⟨p.val + 1, by omega⟩ rfl]
        exact congrArg _ (by show p.val + 1 = _; omega))
  rw [hp, key]
  rfl

end Cert.Proof.Value

end
-- ==== Proof.Table.Word.lean ====
/-
  THE TABLE OF COLUMN MASKS AND ROW NUMBERS. The kernel's constant array has three rows of 58 * 224 entries, entry `p`
  standing for row `p / 224` and column `p % 224` of a strip: row 0 is one away from the left edge, row 1 is one away
  from the right edge, row 2 is the strip's row number. `word` says so of the words; the modules beside this one check
  the printed words against it, a stretch of entries each.
-/
module

public import proofs.«01_k».proof.KernelIdeal
public import Idealize.ShloMosaic.PureOps.Ideal.Laws
public import Idealize.ShloMosaic.Lib.IdealHost

@[expose] public section

noncomputable section

namespace Cert.Proof.Table

open Cert.KernelIdeal Idealize.ShloMosaic

/-- The word of a small natural number. -/
def natWord (r : ℕ) : BitVec 32 :=
  match r with
  | 0 => 0x00000000#32
  | 1 => 0x3F800000#32
  | 2 => 0x40000000#32
  | 3 => 0x40400000#32
  | 4 => 0x40800000#32
  | 5 => 0x40A00000#32
  | 6 => 0x40C00000#32
  | 7 => 0x40E00000#32
  | 8 => 0x41000000#32
  | 9 => 0x41100000#32
  | 10 => 0x41200000#32
  | 11 => 0x41300000#32
  | 12 => 0x41400000#32
  | 13 => 0x41500000#32
  | 14 => 0x41600000#32
  | 15 => 0x41700000#32
  | 16 => 0x41800000#32
  | 17 => 0x41880000#32
  | 18 => 0x41900000#32
  | 19 => 0x41980000#32
  | 20 => 0x41A00000#32
  | 21 => 0x41A80000#32
  | 22 => 0x41B00000#32
  | 23 => 0x41B80000#32
  | 24 => 0x41C00000#32
  | 25 => 0x41C80000#32
  | 26 => 0x41D00000#32
  | 27 => 0x41D80000#32
  | 28 => 0x41E00000#32
  | 29 => 0x41E80000#32
  | 30 => 0x41F00000#32
  | 31 => 0x41F80000#32
  | 32 => 0x42000000#32
  | 33 => 0x42040000#32
  | 34 => 0x42080000#32
  | 35 => 0x420C0000#32
  | 36 => 0x42100000#32
  | 37 => 0x42140000#32
  | 38 => 0x42180000#32
  | 39 => 0x421C0000#32
  | 40 => 0x42200000#32
  | 41 => 0x42240000#32
  | 42 => 0x42280000#32
  | 43 => 0x422C0000#32
  | 44 => 0x42300000#32
  | 45 => 0x42340000#32
  | 46 => 0x42380000#32
  | 47 => 0x423C0000#32
  | 48 => 0x42400000#32
  | 49 => 0x42440000#32
  | 50 => 0x42480000#32
  | 51 => 0x424C0000#32
  | 52 => 0x42500000#32
  | 53 => 0x42540000#32
  | 54 => 0x42580000#32
  | 55 => 0x425C0000#32
  | 56 => 0x42600000#32
  | 57 => 0x42640000#32
  | _ => 0#32

/-- The word at position `n` of the table. -/
def word (n : ℕ) : BitVec 32 :=
  if n < 12992 then (if 1 ≤ n % 224 then 0x3F800000#32 else 0x00000000#32)
  else if n < 25984 then (if (n - 12992) % 224 ≤ 222 then 0x3F800000#32 else 0x00000000#32)
  else natWord ((n - 25984) / 224)

/-- A stretch of the printed words agrees with `word`. -/
def agree (start : ℕ) : Bool := (List.range 4872).all fun b => lit0t (start + b) == word (start + b)

theorem agree_at {start : ℕ} (h : agree start = true) (n : ℕ) (h0 : start ≤ n) (h1 : n < start + 4872) :
    lit0t n = word n := by
  have := List.all_eq_true.mp h (n - start) (List.mem_range.mpr (by omega))
  rw [show start + (n - start) = n by omega] at this
  exact eq_of_beq this

theorem natWord_value (r : ℕ) (hr : r < 58) : Ideal.ofBits .f32 (natWord r) = ((r : ℝ) : EReal) := by
  interval_cases r <;>
    (simp only [natWord]; simp [Ideal.ofBits, Ideal.ieee, -EReal.coe_mul]; try norm_num)

end Cert.Proof.Table

end
-- ==== Proof.Table.Part0.lean ====
/-
  Entries 0 to 4871 of the table are what `word` says.
-/
module

public import proofs.«01_k».proof.Proof.Table.Word

@[expose] public section

namespace Cert.Proof.Table

set_option maxRecDepth 100000 in
set_option maxHeartbeats 0 in
theorem part0 : agree 0 = true := by decide +kernel

end Cert.Proof.Table

end
-- ==== Proof.Table.Part1.lean ====
/-
  Entries 4872 to 9743 of the table are what `word` says.
-/
module

public import proofs.«01_k».proof.Proof.Table.Word

@[expose] public section

namespace Cert.Proof.Table

set_option maxRecDepth 100000 in
set_option maxHeartbeats 0 in
theorem part1 : agree 4872 = true := by decide +kernel

end Cert.Proof.Table

end
-- ==== Proof.Table.Part2.lean ====
/-
  Entries 9744 to 14615 of the table are what `word` says.
-/
module

public import proofs.«01_k».proof.Proof.Table.Word

@[expose] public section

namespace Cert.Proof.Table

set_option maxRecDepth 100000 in
set_option maxHeartbeats 0 in
theorem part2 : agree 9744 = true := by decide +kernel

end Cert.Proof.Table

end
-- ==== Proof.Table.Part3.lean ====
/-
  Entries 14616 to 19487 of the table are what `word` says.
-/
module

public import proofs.«01_k».proof.Proof.Table.Word

@[expose] public section

namespace Cert.Proof.Table

set_option maxRecDepth 100000 in
set_option maxHeartbeats 0 in
theorem part3 : agree 14616 = true := by decide +kernel

end Cert.Proof.Table

end
-- ==== Proof.Table.Part4.lean ====
/-
  Entries 19488 to 24359 of the table are what `word` says.
-/
module

public import proofs.«01_k».proof.Proof.Table.Word

@[expose] public section

namespace Cert.Proof.Table

set_option maxRecDepth 100000 in
set_option maxHeartbeats 0 in
theorem part4 : agree 19488 = true := by decide +kernel

end Cert.Proof.Table

end
-- ==== Proof.Table.Part5.lean ====
/-
  Entries 24360 to 29231 of the table are what `word` says.
-/
module

public import proofs.«01_k».proof.Proof.Table.Word

@[expose] public section

namespace Cert.Proof.Table

set_option maxRecDepth 100000 in
set_option maxHeartbeats 0 in
theorem part5 : agree 24360 = true := by decide +kernel

end Cert.Proof.Table

end
-- ==== Proof.Table.Part6.lean ====
/-
  Entries 29232 to 34103 of the table are what `word` says.
-/
module

public import proofs.«01_k».proof.Proof.Table.Word

@[expose] public section

namespace Cert.Proof.Table

set_option maxRecDepth 100000 in
set_option maxHeartbeats 0 in
theorem part6 : agree 29232 = true := by decide +kernel

end Cert.Proof.Table

end
-- ==== Proof.Table.Part7.lean ====
/-
  Entries 34104 to 38975 of the table are what `word` says.
-/
module

public import proofs.«01_k».proof.Proof.Table.Word

@[expose] public section

namespace Cert.Proof.Table

set_option maxRecDepth 100000 in
set_option maxHeartbeats 0 in
theorem part7 : agree 34104 = true := by decide +kernel

end Cert.Proof.Table

end
-- ==== Proof.Table.Table.lean ====
/-
  THE WHOLE TABLE, from its eight checked stretches, and its values: row 0 is the left mask, row 1 the right mask, row 2
  the row number.
-/
module

public import proofs.«01_k».proof.Proof.Table.Part0
public import proofs.«01_k».proof.Proof.Table.Part1
public import proofs.«01_k».proof.Proof.Table.Part2
public import proofs.«01_k».proof.Proof.Table.Part3
public import proofs.«01_k».proof.Proof.Table.Part4
public import proofs.«01_k».proof.Proof.Table.Part5
public import proofs.«01_k».proof.Proof.Table.Part6
public import proofs.«01_k».proof.Proof.Table.Part7

@[expose] public section

noncomputable section

namespace Cert.Proof.Table

open Cert.KernelIdeal Idealize.ShloMosaic

/-- Every printed word is what `word` says. -/
theorem lit_word (n : ℕ) (h : n < 38976) : lit0t n = word n := by
  rcases (by omega : n < 4872 ∨ (4872 ≤ n ∧ n < 9744) ∨ (9744 ≤ n ∧ n < 14616) ∨ (14616 ≤ n ∧ n < 19488) ∨ (19488 ≤ n ∧ n < 24360)
    ∨ (24360 ≤ n ∧ n < 29232) ∨ (29232 ≤ n ∧ n < 34104) ∨ (34104 ≤ n ∧ n < 38976))
    with h | h | h | h | h | h | h | h
  · exact agree_at part0 n (by omega) (by omega)
  · exact agree_at part1 n (by omega) (by omega)
  · exact agree_at part2 n (by omega) (by omega)
  · exact agree_at part3 n (by omega) (by omega)
  · exact agree_at part4 n (by omega) (by omega)
  · exact agree_at part5 n (by omega) (by omega)
  · exact agree_at part6 n (by omega) (by omega)
  · exact agree_at part7 n (by omega) (by omega)

/-- The left mask. -/
theorem left_value (p : ℕ) (h : p < 12992) : Ideal.ofBits .f32 (lit0t p) = if 1 ≤ p % 224 then 1 else 0 := by
  rw [lit_word p (by omega), word, if_pos h]
  split
  · exact Ideal.ofBits_one_f32
  · exact Ideal.ofBits_zero_f32

/-- The right mask. -/
theorem right_value (p : ℕ) (h : p < 12992) : Ideal.ofBits .f32 (lit0t (12992 + p)) = if p % 224 ≤ 222 then 1 else 0 := by
  rw [lit_word (12992 + p) (by omega), word, if_neg (by omega), if_pos (by omega), show 12992 + p - 12992 = p by omega]
  split
  · exact Ideal.ofBits_one_f32
  · exact Ideal.ofBits_zero_f32

/-- The row numbers. -/
theorem row_value (p : ℕ) (h : p < 12992) : Ideal.ofBits .f32 (lit0t (25984 + p)) = (((p / 224 : ℕ) : ℝ) : EReal) := by
  rw [lit_word (25984 + p) (by omega), word, if_neg (by omega), if_neg (by omega), show 25984 + p - 25984 = p by omega]
  exact natWord_value (p / 224) (by omega)

end Cert.Proof.Table

end
-- ==== Proof.Value.Point.lean ====
/-
  WHAT A GRID POINT IS GIVEN: each window's block at a point, read at an index, is an argument read at an index; so the
  operands of the block are what `Operands` asks.
-/
module

public import proofs.«01_k».proof.Proof.Value.Host
public import proofs.«01_k».proof.Proof.Value.Block
public import proofs.«01_k».proof.Proof.Table.Table
public import Idealize.ShloMosaic.Lib.Pipeline.ValueKit.Geometry

@[expose] public section

noncomputable section

namespace Cert.Proof.Value

open Cert.KernelIdeal Cert.KernelIdeal.Gen
open Idealize.ShloMosaic
open Idealize.ShloMosaic.ValueIdx
open Idealize.ShloMosaic.TcCoe
open Cert.Proof.Ideal (blockOut fillAt fill_apply Vb Va Vb_def blkIn imgs imgs_eq strip strip_eq)
open Cert.Proof.Math (padv padv_in lay gate)
open scoped BigOperators

attribute [local irreducible] Vb imgs strip

variable (m : (ℓ : Loc nD τ sig) → Buf (Elt Ideal) ℓ) (c : Dev nD)

/-! ## The arguments -/

/-- The images. -/
abbrev argX : S4x96x224x224.Idx → EReal := m ((c.tc : Thread nD τ).loc main_arg0)
/-- The gates. -/
abbrev argG : S4x96.Idx → EReal := m ((c.tc : Thread nD τ).loc main_arg1)
/-- The first layer's weights and bias, -/
abbrev argW1 : S96x96x3x3.Idx → EReal := m ((c.tc : Thread nD τ).loc main_arg2)
abbrev argB1 : S96.Idx → EReal := m ((c.tc : Thread nD τ).loc main_arg3)
/-- and the second's. -/
abbrev argW2 : S96x96x3x3.Idx → EReal := m ((c.tc : Thread nD τ).loc main_arg4)
abbrev argB2 : S96.Idx → EReal := m ((c.tc : Thread nD τ).loc main_arg5)

/-! ## The arrays the region finds -/

theorem imgs_at (b : Fin 4) (o : Fin 96) (n : Fin 50176) (y z : Fin 224) (h : n.val = 224 * y.val + z.val) :
    imgs m c (ix3 b o n) = argX m c (ix4 b o y z) := by
  rw [imgs_eq, Vb_def]
  exact (congrFun (host_flat (Va m c)) (ix3 b o n)).trans (flat_at _ b o n y z h)

theorem gates_at (b : Fin 4) (o : Fin 96) :
    (Vb m c (Proc.devRef .tc main_call0_v8) : S4x96x1.Idx → EReal) (ix3 b o 0) = gate (fun k c' => argG m c (ix2 k c')) b o := by
  rw [Vb_def]
  exact (congrFun (host_gate (Va m c)) (ix3 b o 0)).trans (gate_at _ b o)

theorem w1_at (kx : Fin 3) (o : Fin 96) (ky : Fin 3) (k : Fin 96) (p q : Fin 288)
    (hp : p.val = kx.val * 96 + o.val) (hq : q.val = ky.val * 96 + k.val) :
    (Vb m c (Proc.devRef .tc main_call0_v11) : S288x288.Idx → EReal) (ix2 p q) = argW1 m c (ix4 o k ky kx) := by
  rw [Vb_def]
  exact (congrFun (host_w1 (Va m c)) (ix2 p q)).trans (mat_at _ kx o ky k p q hp hq)

theorem w2_at (kx : Fin 3) (o : Fin 96) (ky : Fin 3) (k : Fin 96) (p q : Fin 288)
    (hp : p.val = kx.val * 96 + o.val) (hq : q.val = ky.val * 96 + k.val) :
    (Vb m c (Proc.devRef .tc main_call0_v14) : S288x288.Idx → EReal) (ix2 p q) = argW2 m c (ix4 o k ky kx) := by
  rw [Vb_def]
  exact (congrFun (host_w2 (Va m c)) (ix2 p q)).trans (mat_at _ kx o ky k p q hp hq)

theorem b1_at (o : Fin 96) : (Vb m c (Proc.devRef .tc main_call0_v15) : S96x1.Idx → EReal) (ix2 o 0) = argB1 m c (ix1 o) := by
  rw [Vb_def]
  exact (congrFun (host_b1 (Va m c)) (ix2 o 0)).trans (col_at _ o)

theorem b2_at (o : Fin 96) : (Vb m c (Proc.devRef .tc main_call0_v16) : S96x1.Idx → EReal) (ix2 o 0) = argB2 m c (ix1 o) := by
  rw [Vb_def]
  exact (congrFun (host_b2 (Va m c)) (ix2 o 0)).trans (col_at _ o)

/-- The table at row `r`, column `p` is the word printed at `12992 r + p`. -/
theorem table_at (r : Fin 3) (p : Fin 12992) (n : ℕ) (h : n = r.val * 12992 + p.val) :
    (Vb m c (Proc.devRef .tc main_call0_cst) : S3x12992.Idx → EReal) (ix2 r p) = Ideal.ofBits .f32 (lit0t n) := by
  rw [Vb_def]
  refine (congrFun (host_table (Va m c)) (ix2 r p)).trans ?_
  unfold tableOf
  have e : (S3x12992.rowMajor (ix2 r p)).val = n := by rw [Shape.rowMajor_val_two, h]; rfl
  generalize S3x12992.rowMajor (ix2 r p) = k at e
  obtain ⟨k, hk⟩ := k
  have e' : k = n := e
  subst e'
  rfl

/-! ## The blocks -/

/-- The images' strip is block `(i 0, 0, i 1)` of the flattened images, -/
theorem index0 : ∀ t : Fin cfg0.N, win0_0.index t = ![(grid0.coords t 0).val, 0, (grid0.coords t 1).val] :=
  (by decide +kernel : ∀ t : Fin grid0.N, _)
/-- the gates' block row `i 0` of them, -/
theorem index1 : ∀ t : Fin cfg0.N, win0_1.index t = ![(grid0.coords t 0).val, 0, 0] :=
  (by decide +kernel : ∀ t : Fin grid0.N, _)
/-- the others' the whole array. -/
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
/-- The output's strip sits where the images' does. -/
theorem index7 : ∀ t : Fin cfg0.N, win0_7.index t = ![(grid0.coords t 0).val, 0, (grid0.coords t 1).val] :=
  (by decide +kernel : ∀ t : Fin grid0.N, _)

/-- The batch index of a point, -/
def bat (t : Fin cfg0.N) : Fin 4 := ⟨(grid0.coords t 0).val, (grid0.coords t 0).isLt⟩
/-- and its strip's. -/
def str (t : Fin cfg0.N) : Fin 4 := ⟨(grid0.coords t 1).val, (grid0.coords t 1).isLt⟩

theorem blk0_at (t : Fin cfg0.N) (o : Fin 96) (p : Fin 12544) (n : Fin 50176) (h : n.val = (str t).val * 12544 + p.val) :
    (blkIn m c 0 t : S1x96x12544.Idx → EReal) (ix3 0 o p) = imgs m c (ix3 (bat t) o n) := by
  rw [imgs_eq]
  unfold blkIn
  rw [View.read_apply]
  refine congrArg (Vb m c (Proc.devRef .tc main_call0_v0) : S4x96x50176.Idx → EReal) (funext fun a => Fin.ext ?_)
  match a with
  | ⟨0, _⟩ => blk_simp [index0, bat]
  | ⟨1, _⟩ => blk_simp [index0]
  | ⟨2, _⟩ => blk_simp [index0]; exact h.symm

theorem blk1_at (t : Fin cfg0.N) (o : Fin 96) :
    (blkIn m c 1 t : S1x96x1.Idx → EReal) (ix3 0 o 0) = (Vb m c (Proc.devRef .tc main_call0_v8) : S4x96x1.Idx → EReal) (ix3 (bat t) o 0) := by
  unfold blkIn
  rw [View.read_apply]
  refine congrArg (Vb m c (Proc.devRef .tc main_call0_v8) : S4x96x1.Idx → EReal) (funext fun a => Fin.ext ?_)
  match a with
  | ⟨0, _⟩ => blk_simp [index1, bat]
  | ⟨1, _⟩ => blk_simp [index1]
  | ⟨2, _⟩ => blk_simp [index1]

theorem blk2_at (t : Fin cfg0.N) (p q : Fin 288) :
    (blkIn m c 2 t : S288x288.Idx → EReal) (ix2 p q) = (Vb m c (Proc.devRef .tc main_call0_v11) : S288x288.Idx → EReal) (ix2 p q) := by
  unfold blkIn
  rw [View.read_apply]
  refine congrArg (Vb m c (Proc.devRef .tc main_call0_v11) : S288x288.Idx → EReal) (funext fun a => Fin.ext ?_)
  match a with
  | ⟨0, _⟩ => blk_simp [index2]
  | ⟨1, _⟩ => blk_simp [index2]

theorem blk3_at (t : Fin cfg0.N) (p : Fin 288) (q : Fin 288) :
    (blkIn m c 3 t : S288x288.Idx → EReal) (ix2 p q) = (Vb m c (Proc.devRef .tc main_call0_v14) : S288x288.Idx → EReal) (ix2 p q) := by
  unfold blkIn
  rw [View.read_apply]
  refine congrArg (Vb m c (Proc.devRef .tc main_call0_v14) : S288x288.Idx → EReal) (funext fun a => Fin.ext ?_)
  match a with
  | ⟨0, _⟩ => blk_simp [index3]
  | ⟨1, _⟩ => blk_simp [index3]

theorem blk4_at (t : Fin cfg0.N) (p : Fin 96) (q : Fin 1) :
    (blkIn m c 4 t : S96x1.Idx → EReal) (ix2 p q) = (Vb m c (Proc.devRef .tc main_call0_v15) : S96x1.Idx → EReal) (ix2 p q) := by
  unfold blkIn
  rw [View.read_apply]
  refine congrArg (Vb m c (Proc.devRef .tc main_call0_v15) : S96x1.Idx → EReal) (funext fun a => Fin.ext ?_)
  match a with
  | ⟨0, _⟩ => blk_simp [index4]
  | ⟨1, _⟩ => blk_simp [index4]

theorem blk5_at (t : Fin cfg0.N) (p : Fin 96) (q : Fin 1) :
    (blkIn m c 5 t : S96x1.Idx → EReal) (ix2 p q) = (Vb m c (Proc.devRef .tc main_call0_v16) : S96x1.Idx → EReal) (ix2 p q) := by
  unfold blkIn
  rw [View.read_apply]
  refine congrArg (Vb m c (Proc.devRef .tc main_call0_v16) : S96x1.Idx → EReal) (funext fun a => Fin.ext ?_)
  match a with
  | ⟨0, _⟩ => blk_simp [index5]
  | ⟨1, _⟩ => blk_simp [index5]

theorem blk6_at (t : Fin cfg0.N) (p : Fin 3) (q : Fin 12992) :
    (blkIn m c 6 t : S3x12992.Idx → EReal) (ix2 p q) = (Vb m c (Proc.devRef .tc main_call0_cst) : S3x12992.Idx → EReal) (ix2 p q) := by
  unfold blkIn
  rw [View.read_apply]
  refine congrArg (Vb m c (Proc.devRef .tc main_call0_cst) : S3x12992.Idx → EReal) (funext fun a => Fin.ext ?_)
  match a with
  | ⟨0, _⟩ => blk_simp [index6]
  | ⟨1, _⟩ => blk_simp [index6]

/-! ## The operands -/

attribute [local irreducible] blkIn

/-- The scratch holds rows of the padded images. -/
theorem scratch_at (t : Fin cfg0.N) (k : Fin 96) (r x ky : ℕ) (p : Fin 14336) (hx : x < 224)
    (h1 : 1 ≤ 56 * (str t).val + r) (hp : p.val = 448 + (224 * r + x + 224 * ky)) :
    fillAt (F := Ideal) (grid0.coords t) (imgs m c) (ix2 k p)
      = padv (fun k y z => argX m c (ix4 (bat t) k y z)) k (56 * (str t).val + r - 1 + ky) (x + 1) := by
  refine (fill_apply (F := Ideal) (grid0.coords t) (imgs m c) k p).trans ?_
  by_cases h : 896 ≤ (str t).val * 12544 + p.val ∧ (str t).val * 12544 + p.val < 51072
  · have hR : 56 * (str t).val + r - 1 + ky = (56 * (str t).val + r + ky - 2) + 1 := by omega
    rw [hR]
    refine (dif_pos h).trans ?_
    refine (imgs_at m c (bat t) k _ ⟨56 * (str t).val + r + ky - 2, by omega⟩ ⟨x, hx⟩ ?_).trans
      (padv_in (fun k y z => argX m c (ix4 (bat t) k y z)) k ⟨56 * (str t).val + r + ky - 2, by omega⟩ ⟨x, hx⟩).symm
    show (str t).val * 12544 + p.val - 896 = 224 * (56 * (str t).val + r + ky - 2) + x
    omega
  · refine (dif_neg h).trans ?_
    refine (Ideal.ofBits_zero_f32 : (Scalar.ofBits .f32 0x00000000#32 : Ideal .f32) = (0 : EReal)).trans ?_
    unfold padv
    rw [dif_neg (by omega)]

/-- The operands of point `t`'s block are as `Operands` asks. -/
theorem operands (t : Fin cfg0.N) :
    Operands (str t) (fun k y z => argX m c (ix4 (bat t) k y z)) (fun o k ky kx => argW1 m c (ix4 o k ky kx))
      (fun o k ky kx => argW2 m c (ix4 o k ky kx)) (fun o => argB1 m c (ix1 o)) (fun o => argB2 m c (ix1 o))
      (gate (fun b k => argG m c (ix2 b k)) (bat t)) (fillAt (F := Ideal) (grid0.coords t) (imgs m c)) (blkIn m c 1 t) (blkIn m c 6 t)
      (blkIn m c 2 t) (blkIn m c 3 t) (blkIn m c 4 t) (blkIn m c 5 t) where
  scratch k r x ky p _ hx _ h1 _ hp := scratch_at m c t k r x ky p hx h1 hp
  weights1 kx o ky k := (blk2_at m c t _ _).trans (w1_at m c kx o ky k _ _ rfl rfl)
  weights2 kx o ky k := (blk3_at m c t _ _).trans (w2_at m c kx o ky k _ _ rfl rfl)
  bias1 o := (blk4_at m c t o 0).trans (b1_at m c o)
  bias2 o := (blk5_at m c t o 0).trans (b2_at m c o)
  gates o := (blk1_at m c t o).trans (gates_at m c (bat t) o)
  left p := (blk6_at m c t 0 p).trans ((table_at m c 0 p p.val (by show p.val = 0 * 12992 + p.val; omega)).trans (Table.left_value p.val p.isLt))
  right p := (blk6_at m c t 1 p).trans ((table_at m c 1 p (12992 + p.val) (by show 12992 + p.val = 1 * 12992 + p.val; omega)).trans
    (Table.right_value p.val p.isLt))
  rows p := (blk6_at m c t 2 p).trans ((table_at m c 2 p (25984 + p.val) (by show 25984 + p.val = 2 * 12992 + p.val; omega)).trans
    (Table.row_value p.val p.isLt))

/-- THE STRIP at point `t`: the two layers at the strip's rows, plus the images. -/
theorem strip_at (t : Fin cfg0.N) (o : Fin 96) (p : Fin 12544) (y z : Fin 224) (h : (str t).val * 12544 + p.val = 224 * y.val + z.val) :
    (strip m c t : S1x96x12544.Idx → EReal) (ix3 0 o p)
      = lay (padv fun o' y' z' => lay (padv fun k i j => argX m c (ix4 (bat t) k i j)) (fun o k ky kx => argW1 m c (ix4 o k ky kx))
          (fun o => argB1 m c (ix1 o)) (gate (fun b k => argG m c (ix2 b k)) (bat t)) o' y'.val z'.val)
          (fun o k ky kx => argW2 m c (ix4 o k ky kx)) (fun o => argB2 m c (ix1 o)) (gate (fun b k => argG m c (ix2 b k)) (bat t))
          o y.val z.val
        + argX m c (ix4 (bat t) o y z) := by
  rw [strip_eq]
  have hy : y.val = 56 * (str t).val + (y.val - 56 * (str t).val) := by omega
  refine (block_at (t := str t) (grid0.coords t) rfl (operands m c t) (blkIn m c 0 t) o (y.val - 56 * (str t).val) z.val (by omega) z.isLt p (by omega)).trans ?_
  rw [← hy]
  refine congrArg₂ (· + ·) rfl ?_
  exact (blk0_at m c t o p ⟨(str t).val * 12544 + p.val, by omega⟩ rfl).trans (imgs_at m c (bat t) o _ y z h)

end Cert.Proof.Value

end
-- ==== Proof.Value.Array.lean ====
/-
  THE RESULT ARRAY: the strips cover the output, so after the launch the flattened output holds at each batch, channel,
  row and column the two layers plus the images; the last host operation puts rows and columns back.
-/
module

public import proofs.«01_k».proof.Proof.Value.Point
public import proofs.«01_k».proof.Proof.Ideal.Frame

@[expose] public section

noncomputable section

namespace Cert.Proof.Value

open Cert.KernelIdeal Cert.KernelIdeal.Gen
open Idealize.ShloMosaic
open Idealize.ShloMosaic.ValueIdx
open Idealize.ShloMosaic.TcCoe
open Cert.Proof.Ideal (Vb Vc finalV strip dats blkIn imgs)
open Cert.Proof.Math (padv lay gate)
open scoped BigOperators

attribute [local irreducible] Vb imgs strip blkIn

variable (m : (ℓ : Loc nD τ sig) → Buf (Elt Ideal) ℓ) (c : Dev nD)

/-- The result at batch `b`, channel `o`, row `y`, column `z`. -/
def val (b : Fin 4) (o : Fin 96) (y z : Fin 224) : EReal :=
  lay (padv fun o' y' z' => lay (padv fun k i j => argX m c (ix4 b k i j)) (fun o k ky kx => argW1 m c (ix4 o k ky kx))
      (fun o => argB1 m c (ix1 o)) (gate (fun b k => argG m c (ix2 b k)) b) o' y'.val z'.val)
      (fun o k ky kx => argW2 m c (ix4 o k ky kx)) (fun o => argB2 m c (ix1 o)) (gate (fun b k => argG m c (ix2 b k)) b)
      o y.val z.val
    + argX m c (ix4 b o y z)

/-- The same by flattened position. -/
def flatVal : S4x96x50176.Idx → EReal := fun i =>
  val m c ⟨(i 0).val, (i 0).isLt⟩ ⟨(i 1).val, (i 1).isLt⟩ ⟨(i 2).val / 224, Nat.div_lt_of_lt_mul (i 2).isLt⟩ ⟨(i 2).val % 224, Nat.mod_lt _ (by decide)⟩

/-- What a point leaves, at an index of the strip. -/
theorem left_at (t : Fin cfg0.N) (x : S1x96x12544.Idx) (i : S4x96x50176.Idx) (h0 : (i 0).val = (bat t).val) (h1 : (i 1).val = (x 1).val)
    (h2 : (i 2).val = (str t).val * 12544 + (x 2).val) : (strip m c t : S1x96x12544.Idx → EReal) x = flatVal m c i := by
  obtain ⟨u, o, p, rfl⟩ : ∃ (u : Fin 1) (o : Fin 96) (p : Fin 12544), x = ix3 u o p := ⟨x 0, x 1, x 2, eq_ix3 x⟩
  obtain ⟨b, o', n, rfl⟩ : ∃ (b : Fin 4) (o' : Fin 96) (n : Fin 50176), i = ix3 b o' n := ⟨i 0, i 1, i 2, eq_ix3 i⟩
  obtain rfl : b = bat t := Fin.ext h0
  obtain rfl : o' = o := Fin.ext h1
  have h2' : n.val = (str t).val * 12544 + p.val := h2
  obtain rfl : u = 0 := Subsingleton.elim _ _
  exact strip_at m c t o' p ⟨n.val / 224, by omega⟩ ⟨n.val % 224, by omega⟩ (by show _ = 224 * (n.val / 224) + n.val % 224; omega)

/-- The strips cover the output. -/
theorem covers : (cfg0.win 7).Covers := by decide +kernel

/-- The flattened output when the launch ends. -/
theorem array_eq : (dats m 0 c).arrAt 7 cfg0.N = flatVal m c := by
  refine (dats m 0 c).arrAt_eq_of_covers 7 (flatVal m c) covers fun t hf x => ?_
  refine left_at m c t x _ ?_ ?_ ?_
  · blk_simp [index7, bat]
  · blk_simp [index7]
  · blk_simp [index7, str]

/-- The result when the program ends. -/
theorem final_at (b : Fin 4) (o : Fin 96) (y z : Fin 224) :
    (finalV m c (Proc.devRef .tc main_v0) : S4x96x224x224.Idx → EReal) (ix4 b o y z) = val m c b o y z := by
  have e : finalV m c (Proc.devRef .tc main_v0)
      = shapeCast S4x96x224x224 (Vc m c (Proc.devRef .tc main_call0_v17) : S4x96x50176.Idx → EReal) shapeCasts_S4x96x50176_S4x96x224x224 := by
    unfold finalV
    generalize Vc m c = V
    simp only [hostOps1, StableHlo.TRef.reshape, StableHlo.TRef.toBuf, StableHlo.TRef.ofBuf, cast_eq]
    after_results_simp <;> rfl
  have e' : (Vc m c (Proc.devRef .tc main_call0_v17) : S4x96x50176.Idx → EReal) = flatVal m c := by
    unfold Vc
    exact (Pipeline.afterRegion_arr (dats m 0 c) (Vb m c) launch0.win.arr_inj 7).trans (array_eq m c)
  rw [e, e']
  refine (shapeCast_apply (flatVal m c) _ (ix4 b o y z) (ix3 b o (⟨224 * y.val + z.val, by omega⟩ : Fin 50176)) ?_).trans ?_
  · rw [Shape.rowMajor_val_four, Shape.rowMajor_val_three]
    show (b.val * 96 + o.val) * 50176 + (224 * y.val + z.val) = ((b.val * 96 + o.val) * 224 + y.val) * 224 + z.val
    omega
  · unfold flatVal
    exact congrArg₂ (val m c b o) (Fin.ext (by show (224 * y.val + z.val) / 224 = y.val; omega))
      (Fin.ext (by show (224 * y.val + z.val) % 224 = z.val; omega))

end Cert.Proof.Value

end
-- ==== Proof.lean ====
/-
  The certificate of one expert-gated convolution block: two gated 3x3 convolution layers and a residual, computed by one
  kernel over sixteen strips of rows. The kernel's run is Proof/Bits (at the chip's floats) and Proof/Ideal (the
  same program over the extended reals), the reference's is Proof/Ref. Proof/Value shows that what the kernel leaves is
  the two layers plus the images, as the reference computes it, with the table of constants read in Proof/Table. This
  file assembles the claims.
-/
module

public import proofs.«01_k».proof.Defs
public import proofs.«01_k».proof.Proof.Bits.Frame
public import proofs.«01_k».proof.Proof.Ideal.Frame
public import proofs.«01_k».proof.Proof.Ref.Value
public import proofs.«01_k».proof.Proof.Value.Array

@[expose] public section

noncomputable section

namespace Cert.Proof

open Idealize.ShloMosaic Idealize.SL.Sem

/-- The kernel's frame. -/
theorem frame_kernel : Cert.quiescent_Kernel (hKernel := Cert.Kernel.Gen.facts) := fun m g _ =>
  (θ_run Cert.Kernel.defs _ _).mono (fun _ h => ⟨fun c => (h.1 c).2, h.2⟩) (Bits.run_result m g)

/-- The idealized kernel's frame. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Ideal.run_result m g)

/-- The reference's frame. -/
theorem frame_reference : Cert.quiescent_ReferenceIdeal (hReferenceIdeal := Cert.ReferenceIdeal.Gen.facts) := fun m g _ =>
  (θ_run Cert.ReferenceIdeal.defs _ _).mono (fun _ h => ⟨fun c => (h.1 c).2, h.2⟩) (Ref.ref_run m g)

/-- Where the arguments agree, the kernel's result is the reference's. -/
theorem result_eq (m : (ℓ : Loc Cert.KernelIdeal.nD Cert.KernelIdeal.τ Cert.KernelIdeal.sig) → Buf (Elt Ideal) ℓ) (c : Dev Cert.KernelIdeal.nD) :
    Ref.refOf (F := Ideal) (Value.argX m c) (Value.argG m c) (Value.argW1 m c) (Value.argB1 m c) (Value.argW2 m c) (Value.argB2 m c)
      = Ideal.finalV m c (Proc.devRef .tc Cert.KernelIdeal.main_v0) := by
  funext i
  obtain ⟨b, o, y, z, rfl⟩ : ∃ (b : Fin 4) (o : Fin 96) (y z : Fin 224), i = ValueIdx.ix4 b o y z :=
    ⟨i 0, i 1, i 2, i 3, ValueIdx.eq_ix4 i⟩
  exact (Ref.ref_at _ _ _ _ _ _ b o y z).trans (Value.final_at m c b o y z).symm

/-- The idealized kernel and the reference end with the same result. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Ideal.finalV m c (Proc.devRef .tc Cert.KernelIdeal.main_v0),
    (θ_run Cert.KernelIdeal.defs _ _).mono (fun _ h c => h.1 c) (Ideal.run_result m g),
    (θ_run Cert.ReferenceIdeal.defs _ _).mono (fun _ h c => ⟨(h.1 c).1.trans (by
      obtain ⟨h0, h1, h2, h3, h4, h5⟩ := hargs c
      rw [h0, h1, h2, h3, h4, h5]
      exact result_eq m c), (h.1 c).2⟩) (Ref.ref_run m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
